-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_count" .f32 0x36A72ECF#32 ((1 / 200705 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S204800 : Shape := ⟨1, ![204800]⟩
abbrev S4096 : Shape := ⟨1, ![4096]⟩
abbrev S100000x128 : Shape := ⟨2, ![100000, 128]⟩
abbrev S128x1024 : Shape := ⟨2, ![128, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel
  reducesTo_S4096_S_d0 : S4096.ReducesTo [0] S_
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : IVec S204800 32) (main_arg1 : IVec S4096 32) (main_arg2 : FVec F S100000x128 .f32) (main_arg3 : FVec F S128x1024 .f32) (main_arg4 : FVec F S1024 .f32) (main_arg5 : FVec F S1024x128 .f32) (main_arg6 : FVec F S128 .f32) : IVec S_ 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 1 := constantI S_ 1 1#1
  let main_v2 : IVec S_ 1 := (fun x v => Host.reduce IntOp.andi x v reducesTo_S204800_S_d0 h_S_) main_v1 main_c_0
  let main_c_1 : IVec S_ 32 := constantI S_ 32 100000#32
  let main_v3 : IVec S204800 32 := broadcastInDim S204800 ![] bcast_S_S204800 main_c_1
  let main_v4 : IVec S204800 1 := cmpi .slt main_arg0 main_v3
  let main_c_2 : IVec S_ 1 := constantI S_ 1 1#1
  let main_v5 : IVec S_ 1 := (fun x v => Host.reduce IntOp.andi x v reducesTo_S204800_S_d0 h_S_) main_v4 main_c_2
  let main_v6 : IVec S_ 1 := andi main_v2 main_v5
  let main_v7 : IVec S4096 32 := iotaInDim S4096 32 0
  let main_v8 : IVec S4096 1 := cmpi .eq main_arg1 main_v7
  let main_c_3 : IVec S_ 1 := constantI S_ 1 1#1
  let main_v9 : IVec S_ 1 := (fun x v => Host.reduce IntOp.andi x v reducesTo_S4096_S_d0 h_S_) main_v8 main_c_3
  let main_v10 : IVec S_ 1 := andi main_v6 main_v9
  let main_v11 : FVec F S100000x128 .f32 := Host.absf main_arg2
  let main_cst : FVec F S_ .f32 := constant S_ .f32 0x7F800000#32
  let main_v12 : FVec F S100000x128 .f32 := broadcastInDim S100000x128 ![] bcast_S_S100000x128 main_cst
  let main_v13 : IVec S100000x128 1 := cmpf .olt main_v11 main_v12
  let main_c_4 : IVec S_ 1 := constantI S_ 1 1#1
  let main_v14 : IVec S_ 1 := (fun x v => Host.reduce IntOp.andi x v reducesTo_S100000x128_S_d0_1 h_S_) main_v13 main_c_4
  let main_v15 : IVec S_ 1 := andi main_v10 main_v14
  main_v15
-- ==== Pre_in_range.lean ====
abbrev S204800 : Shape := ⟨1, ![204800]⟩
abbrev S4096 : Shape := ⟨1, ![4096]⟩
abbrev S100000x128 : Shape := ⟨2, ![100000, 128]⟩
abbrev S128x1024 : Shape := ⟨2, ![128, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel

variable [Facts]

def fn {F : FTy → Type} [FloatOps F] (main_arg0 : IVec S204800 32) (main_arg1 : IVec S4096 32) (main_arg2 : FVec F S100000x128 .f32) (main_arg3 : FVec F S128x1024 .f32) (main_arg4 : FVec F S1024 .f32) (main_arg5 : FVec F S1024x128 .f32) (main_arg6 : FVec F S128 .f32) : IVec S_ 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 1 := constantI S_ 1 1#1
  let main_v2 : IVec S_ 1 := (fun x v => Host.reduce IntOp.andi x v reducesTo_S204800_S_d0 h_S_) main_v1 main_c_0
  let main_c_1 : IVec S_ 32 := constantI S_ 32 100000#32
  let main_v3 : IVec S204800 32 := broadcastInDim S204800 ![] bcast_S_S204800 main_c_1
  let main_v4 : IVec S204800 1 := cmpi .slt main_arg0 main_v3
  let main_c_2 : IVec S_ 1 := constantI S_ 1 1#1
  let main_v5 : IVec S_ 1 := (fun x v => Host.reduce IntOp.andi x v reducesTo_S204800_S_d0 h_S_) main_v4 main_c_2
  let main_v6 : IVec S_ 1 := andi main_v2 main_v5
  main_v6
-- ==== Kernel.lean ====
abbrev S204800 : Shape := ⟨1, ![204800]⟩
abbrev S4096 : Shape := ⟨1, ![4096]⟩
abbrev S100000x128 : Shape := ⟨2, ![100000, 128]⟩
abbrev S128x1024 : Shape := ⟨2, ![128, 1024]⟩
abbrev S1024 : Shape := ⟨1, ![1024]⟩
abbrev S1024x128 : Shape := ⟨2, ![1024, 128]⟩
abbrev S128 : Shape := ⟨1, ![128]⟩
abbrev S4096x128 : Shape := ⟨2, ![4096, 128]⟩
abbrev S32x128 : Shape := ⟨2, ![32, 128]⟩
abbrev S6400 : Shape := ⟨1, ![6400]⟩
abbrev S128x128 : Shape := ⟨2, ![128, 128]⟩
abbrev S_ : Shape := ⟨0, ![]⟩
abbrev S16 : Shape := ⟨1, ![16]⟩
abbrev S1x16 : Shape := ⟨2, ![1, 16]⟩
abbrev S1x128 : Shape := ⟨2, ![1, 128]⟩
abbrev S1x1024 : Shape := ⟨2, ![1, 1024]⟩
abbrev S256x128 : Shape := ⟨2, ![256, 128]⟩
abbrev S256x1 : Shape := ⟨2, ![256, 1]⟩
abbrev S256x1024 : Shape := ⟨2, ![256, 1024]⟩

abbrev nBuf : Table → Nat
  | .hbm => 12
  | .local .tc .vmem => 9
  | .local .scVector .vmem => 6
  | _ => 0

abbrev bufTy : (tb : Table) → Fin (nBuf tb) → BufTy
  | .hbm, ⟨0, _⟩ => ⟨S204800, .i32⟩
  | .hbm, ⟨1, _⟩ => ⟨S4096, .i32⟩
  | .hbm, ⟨2, _⟩ => ⟨S100000x128, .f32⟩
  | .hbm, ⟨3, _⟩ => ⟨S128x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S4096x128, .f32⟩
  | .hbm, ⟨8, _⟩ => ⟨S32x128, .f32⟩
  | .hbm, ⟨9, _⟩ => ⟨S1x1024, .f32⟩
  | .hbm, ⟨10, _⟩ => ⟨S1x128, .f32⟩
  | .hbm, ⟨11, _⟩ => ⟨S4096x128, .f32⟩
  | .local .tc .vmem, ⟨0, _⟩ => ⟨S256x128, .f32⟩
  | .local .tc .vmem, ⟨1, _⟩ => ⟨S256x128, .f32⟩
  | .local .tc .vmem, ⟨2, _⟩ => ⟨S32x128, .f32⟩
  | .local .tc .vmem, ⟨3, _⟩ => ⟨S128x1024, .f32⟩
  | .local .tc .vmem, ⟨4, _⟩ => ⟨S1x1024, .f32⟩
  | .local .tc .vmem, ⟨5, _⟩ => ⟨S1024x128, .f32⟩
  | .local .tc .vmem, ⟨6, _⟩ => ⟨S1x128, .f32⟩
  | .local .tc .vmem, ⟨7, _⟩ => ⟨S256x128, .f32⟩
  | .local .tc .vmem, ⟨8, _⟩ => ⟨S256x128, .f32⟩
  | .local .scVector .vmem, ⟨0, _⟩ => ⟨S6400, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128, .f32⟩
  | _, _ => ⟨S204800, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_arg0_scv : Ref sig .scVector := ⟨.hbm, 0, rfl⟩
abbrev main_arg2_scv : Ref sig .scVector := ⟨.hbm, 2, rfl⟩
abbrev main_v0_0_scv : Ref sig .scVector := ⟨.hbm, 7, rfl⟩
abbrev main_v0_1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg6_1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  ![v3.toNat]
@[reducible] def k0_t1_loop : Scf.Loop 32 :=
  let c0_i32_16 : BitVec 32 := 0#32
  let c128_i32_17 : BitVec 32 := 128#32
  let v18 : BitVec 32 := Scalar.addi c0_i32_16 c128_i32_17
  let c1_i32 : BitVec 32 := 1#32
  ⟨c0_i32_16, v18, c1_i32⟩
def k0_off3 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let v63 : Index := Scalar.indexCast arg15
  let c0_35 : Index := 0#32
  ![v63.toNat, 0]
def k0_off4 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let v67 : Index := Scalar.indexCast arg15
  let c16_36 : Index := 16#32
  ![v67.toNat, 16]
def k0_off5 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let v71 : Index := Scalar.indexCast arg15
  let c32_37 : Index := 32#32
  ![v71.toNat, 32]
def k0_off6 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let v75 : Index := Scalar.indexCast arg15
  let c48_38 : Index := 48#32
  ![v75.toNat, 48]
def k0_off7 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let v79 : Index := Scalar.indexCast arg15
  let c64_39 : Index := 64#32
  ![v79.toNat, 64]
def k0_off8 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let v83 : Index := Scalar.indexCast arg15
  let c80_40 : Index := 80#32
  ![v83.toNat, 80]
def k0_off9 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let v87 : Index := Scalar.indexCast arg15
  let c96_41 : Index := 96#32
  ![v87.toNat, 96]
def k0_off10 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let v91 : Index := Scalar.indexCast arg15
  let c112_42 : Index := 112#32
  ![v91.toNat, 112]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_19 : BitVec 32 := 128#32
  let v20 : BitVec 32 := Scalar.muli v1 c128_i32_19
  let c0_i32_35_r2 : BitVec 32 := 0#32
  ![v20.toNat, 0]
@[reducible] def k0_t2_loop : Scf.Loop 32 :=
  let c0_i32_20 : BitVec 32 := 0#32
  let c24_i32 : BitVec 32 := 24#32
  let v21 : BitVec 32 := Scalar.addi c0_i32_20 c24_i32
  let c1_i32_21 : BitVec 32 := 1#32
  ⟨c0_i32_20, v21, c1_i32_21⟩
def k0_off12 (k0_t2 : Fin k0_t2_loop.trips) : Fin 1 → Nat :=
  let c0_i32_20 : BitVec 32 := 0#32
  let c1_i32_21 : BitVec 32 := 1#32
  let arg15 : BitVec 32 := Scf.iv c0_i32_20 c1_i32_21 k0_t2
  let c2_i32_35 : BitVec 32 := 2#32
  let v63 : BitVec 32 := Scalar.muli arg15 c2_i32_35
  let c128_i32_36 : BitVec 32 := 128#32
  let v64 : BitVec 32 := Scalar.muli v63 c128_i32_36
  ![v64.toNat]
@[reducible] def k0_t3_loop : Scf.Loop 32 :=
  let c0_i32_39 : BitVec 32 := 0#32
  let c128_i32_40 : BitVec 32 := 128#32
  let v67 : BitVec 32 := Scalar.addi c0_i32_39 c128_i32_40
  let c1_i32_41 : BitVec 32 := 1#32
  ⟨c0_i32_39, v67, c1_i32_41⟩
def k0_off13 (k0_t3 : Fin k0_t3_loop.trips) : Fin 2 → Nat :=
  let c0_i32_39 : BitVec 32 := 0#32
  let c1_i32_41 : BitVec 32 := 1#32
  let arg24 : BitVec 32 := Scf.iv c0_i32_39 c1_i32_41 k0_t3
  let v83 : Index := Scalar.indexCast arg24
  let c0_58 : Index := 0#32
  ![v83.toNat, 0]
def k0_off14 (k0_t3 : Fin k0_t3_loop.trips) : Fin 2 → Nat :=
  let c0_i32_39 : BitVec 32 := 0#32
  let c1_i32_41 : BitVec 32 := 1#32
  let arg24 : BitVec 32 := Scf.iv c0_i32_39 c1_i32_41 k0_t3
  let v87 : Index := Scalar.indexCast arg24
  let c16_59 : Index := 16#32
  ![v87.toNat, 16]
def k0_off15 (k0_t3 : Fin k0_t3_loop.trips) : Fin 2 → Nat :=
  let c0_i32_39 : BitVec 32 := 0#32
  let c1_i32_41 : BitVec 32 := 1#32
  let arg24 : BitVec 32 := Scf.iv c0_i32_39 c1_i32_41 k0_t3
  let v91 : Index := Scalar.indexCast arg24
  let c32_60 : Index := 32#32
  ![v91.toNat, 32]
def k0_off16 (k0_t3 : Fin k0_t3_loop.trips) : Fin 2 → Nat :=
  let c0_i32_39 : BitVec 32 := 0#32
  let c1_i32_41 : BitVec 32 := 1#32
  let arg24 : BitVec 32 := Scf.iv c0_i32_39 c1_i32_41 k0_t3
  let v95 : Index := Scalar.indexCast arg24
  let c48_61 : Index := 48#32
  ![v95.toNat, 48]
def k0_off17 (k0_t3 : Fin k0_t3_loop.trips) : Fin 2 → Nat :=
  let c0_i32_39 : BitVec 32 := 0#32
  let c1_i32_41 : BitVec 32 := 1#32
  let arg24 : BitVec 32 := Scf.iv c0_i32_39 c1_i32_41 k0_t3
  let v99 : Index := Scalar.indexCast arg24
  let c64_62 : Index := 64#32
  ![v99.toNat, 64]
def k0_off18 (k0_t3 : Fin k0_t3_loop.trips) : Fin 2 → Nat :=
  let c0_i32_39 : BitVec 32 := 0#32
  let c1_i32_41 : BitVec 32 := 1#32
  let arg24 : BitVec 32 := Scf.iv c0_i32_39 c1_i32_41 k0_t3
  let v103 : Index := Scalar.indexCast arg24
  let c80_63 : Index := 80#32
  ![v103.toNat, 80]
def k0_off19 (k0_t3 : Fin k0_t3_loop.trips) : Fin 2 → Nat :=
  let c0_i32_39 : BitVec 32 := 0#32
  let c1_i32_41 : BitVec 32 := 1#32
  let arg24 : BitVec 32 := Scf.iv c0_i32_39 c1_i32_41 k0_t3
  let v107 : Index := Scalar.indexCast arg24
  let c96_64 : Index := 96#32
  ![v107.toNat, 96]
def k0_off20 (k0_t3 : Fin k0_t3_loop.trips) : Fin 2 → Nat :=
  let c0_i32_39 : BitVec 32 := 0#32
  let c1_i32_41 : BitVec 32 := 1#32
  let arg24 : BitVec 32 := Scf.iv c0_i32_39 c1_i32_41 k0_t3
  let v111 : Index := Scalar.indexCast arg24
  let c112_65 : Index := 112#32
  ![v111.toNat, 112]
def k0_off21 (k0_t2 : Fin k0_t2_loop.trips) (c2_i32_43 : BitVec 32) : Fin 1 → Nat :=
  let c0_i32_20 : BitVec 32 := 0#32
  let c1_i32_21 : BitVec 32 := 1#32
  let arg15 : BitVec 32 := Scf.iv c0_i32_20 c1_i32_21 k0_t2
  let c2_i32_35 : BitVec 32 := 2#32
  let v63 : BitVec 32 := Scalar.muli arg15 c2_i32_35
  let v69 : BitVec 32 := Scalar.addi v63 c2_i32_43
  let c128_i32_44 : BitVec 32 := 128#32
  let v70 : BitVec 32 := Scalar.muli v69 c128_i32_44
  ![v70.toNat]
@[reducible] def k0_t4_loop : Scf.Loop 32 :=
  let c0_i32_51 : BitVec 32 := 0#32
  let c128_i32_52 : BitVec 32 := 128#32
  let v77 : BitVec 32 := Scalar.addi c0_i32_51 c128_i32_52
  let c1_i32_53 : BitVec 32 := 1#32
  ⟨c0_i32_51, v77, c1_i32_53⟩
def k0_off22 (k0_t4 : Fin k0_t4_loop.trips) : Fin 2 → Nat :=
  let c0_i32_51 : BitVec 32 := 0#32
  let c1_i32_53 : BitVec 32 := 1#32
  let arg24 : BitVec 32 := Scf.iv c0_i32_51 c1_i32_53 k0_t4
  let v83 : Index := Scalar.indexCast arg24
  let c0_58 : Index := 0#32
  ![v83.toNat, 0]
def k0_off23 (k0_t4 : Fin k0_t4_loop.trips) : Fin 2 → Nat :=
  let c0_i32_51 : BitVec 32 := 0#32
  let c1_i32_53 : BitVec 32 := 1#32
  let arg24 : BitVec 32 := Scf.iv c0_i32_51 c1_i32_53 k0_t4
  let v87 : Index := Scalar.indexCast arg24
  let c16_59 : Index := 16#32
  ![v87.toNat, 16]
def k0_off24 (k0_t4 : Fin k0_t4_loop.trips) : Fin 2 → Nat :=
  let c0_i32_51 : BitVec 32 := 0#32
  let c1_i32_53 : BitVec 32 := 1#32
  let arg24 : BitVec 32 := Scf.iv c0_i32_51 c1_i32_53 k0_t4
  let v91 : Index := Scalar.indexCast arg24
  let c32_60 : Index := 32#32
  ![v91.toNat, 32]
def k0_off25 (k0_t4 : Fin k0_t4_loop.trips) : Fin 2 → Nat :=
  let c0_i32_51 : BitVec 32 := 0#32
  let c1_i32_53 : BitVec 32 := 1#32
  let arg24 : BitVec 32 := Scf.iv c0_i32_51 c1_i32_53 k0_t4
  let v95 : Index := Scalar.indexCast arg24
  let c48_61 : Index := 48#32
  ![v95.toNat, 48]
def k0_off26 (k0_t4 : Fin k0_t4_loop.trips) : Fin 2 → Nat :=
  let c0_i32_51 : BitVec 32 := 0#32
  let c1_i32_53 : BitVec 32 := 1#32
  let arg24 : BitVec 32 := Scf.iv c0_i32_51 c1_i32_53 k0_t4
  let v99 : Index := Scalar.indexCast arg24
  let c64_62 : Index := 64#32
  ![v99.toNat, 64]
def k0_off27 (k0_t4 : Fin k0_t4_loop.trips) : Fin 2 → Nat :=
  let c0_i32_51 : BitVec 32 := 0#32
  let c1_i32_53 : BitVec 32 := 1#32
  let arg24 : BitVec 32 := Scf.iv c0_i32_51 c1_i32_53 k0_t4
  let v103 : Index := Scalar.indexCast arg24
  let c80_63 : Index := 80#32
  ![v103.toNat, 80]
def k0_off28 (k0_t4 : Fin k0_t4_loop.trips) : Fin 2 → Nat :=
  let c0_i32_51 : BitVec 32 := 0#32
  let c1_i32_53 : BitVec 32 := 1#32
  let arg24 : BitVec 32 := Scf.iv c0_i32_51 c1_i32_53 k0_t4
  let v107 : Index := Scalar.indexCast arg24
  let c96_64 : Index := 96#32
  ![v107.toNat, 96]
def k0_off29 (k0_t4 : Fin k0_t4_loop.trips) : Fin 2 → Nat :=
  let c0_i32_51 : BitVec 32 := 0#32
  let c1_i32_53 : BitVec 32 := 1#32
  let arg24 : BitVec 32 := Scf.iv c0_i32_51 c1_i32_53 k0_t4
  let v111 : Index := Scalar.indexCast arg24
  let c112_65 : Index := 112#32
  ![v111.toNat, 112]
@[reducible] def k0_t5_loop : Scf.Loop 32 :=
  let c0_i32_25 : BitVec 32 := 0#32
  let c128_i32_26 : BitVec 32 := 128#32
  let v25 : BitVec 32 := Scalar.addi c0_i32_25 c128_i32_26
  let c1_i32_27 : BitVec 32 := 1#32
  ⟨c0_i32_25, v25, c1_i32_27⟩
def k0_off30 (k0_t5 : Fin k0_t5_loop.trips) : Fin 2 → Nat :=
  let c0_i32_25 : BitVec 32 := 0#32
  let c1_i32_27 : BitVec 32 := 1#32
  let arg15 : BitVec 32 := Scf.iv c0_i32_25 c1_i32_27 k0_t5
  let v63 : Index := Scalar.indexCast arg15
  let c0_35 : Index := 0#32
  ![v63.toNat, 0]
def k0_off31 (k0_t5 : Fin k0_t5_loop.trips) : Fin 2 → Nat :=
  let c0_i32_25 : BitVec 32 := 0#32
  let c1_i32_27 : BitVec 32 := 1#32
  let arg15 : BitVec 32 := Scf.iv c0_i32_25 c1_i32_27 k0_t5
  let v67 : Index := Scalar.indexCast arg15
  let c16_36 : Index := 16#32
  ![v67.toNat, 16]
def k0_off32 (k0_t5 : Fin k0_t5_loop.trips) : Fin 2 → Nat :=
  let c0_i32_25 : BitVec 32 := 0#32
  let c1_i32_27 : BitVec 32 := 1#32
  let arg15 : BitVec 32 := Scf.iv c0_i32_25 c1_i32_27 k0_t5
  let v71 : Index := Scalar.indexCast arg15
  let c32_37 : Index := 32#32
  ![v71.toNat, 32]
def k0_off33 (k0_t5 : Fin k0_t5_loop.trips) : Fin 2 → Nat :=
  let c0_i32_25 : BitVec 32 := 0#32
  let c1_i32_27 : BitVec 32 := 1#32
  let arg15 : BitVec 32 := Scf.iv c0_i32_25 c1_i32_27 k0_t5
  let v75 : Index := Scalar.indexCast arg15
  let c48_38 : Index := 48#32
  ![v75.toNat, 48]
def k0_off34 (k0_t5 : Fin k0_t5_loop.trips) : Fin 2 → Nat :=
  let c0_i32_25 : BitVec 32 := 0#32
  let c1_i32_27 : BitVec 32 := 1#32
  let arg15 : BitVec 32 := Scf.iv c0_i32_25 c1_i32_27 k0_t5
  let v79 : Index := Scalar.indexCast arg15
  let c64_39 : Index := 64#32
  ![v79.toNat, 64]
def k0_off35 (k0_t5 : Fin k0_t5_loop.trips) : Fin 2 → Nat :=
  let c0_i32_25 : BitVec 32 := 0#32
  let c1_i32_27 : BitVec 32 := 1#32
  let arg15 : BitVec 32 := Scf.iv c0_i32_25 c1_i32_27 k0_t5
  let v83 : Index := Scalar.indexCast arg15
  let c80_40 : Index := 80#32
  ![v83.toNat, 80]
def k0_off36 (k0_t5 : Fin k0_t5_loop.trips) : Fin 2 → Nat :=
  let c0_i32_25 : BitVec 32 := 0#32
  let c1_i32_27 : BitVec 32 := 1#32
  let arg15 : BitVec 32 := Scf.iv c0_i32_25 c1_i32_27 k0_t5
  let v87 : Index := Scalar.indexCast arg15
  let c96_41 : Index := 96#32
  ![v87.toNat, 96]
def k0_off37 (k0_t5 : Fin k0_t5_loop.trips) : Fin 2 → Nat :=
  let c0_i32_25 : BitVec 32 := 0#32
  let c1_i32_27 : BitVec 32 := 1#32
  let arg15 : BitVec 32 := Scf.iv c0_i32_25 c1_i32_27 k0_t5
  let v91 : Index := Scalar.indexCast arg15
  let c112_42 : Index := 112#32
  ![v91.toNat, 112]
@[reducible] def k0_t6_loop : Scf.Loop 32 :=
  let c0_i32_31 : BitVec 32 := 0#32
  let c128_i32_32 : BitVec 32 := 128#32
  let v29 : BitVec 32 := Scalar.addi c0_i32_31 c128_i32_32
  let c1_i32_33 : BitVec 32 := 1#32
  ⟨c0_i32_31, v29, c1_i32_33⟩
def k0_off38 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let v63 : Index := Scalar.indexCast arg15
  let c0_35 : Index := 0#32
  ![v63.toNat, 0]
def k0_off39 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let v67 : Index := Scalar.indexCast arg15
  let c16_36 : Index := 16#32
  ![v67.toNat, 16]
def k0_off40 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let v71 : Index := Scalar.indexCast arg15
  let c32_37 : Index := 32#32
  ![v71.toNat, 32]
def k0_off41 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let v75 : Index := Scalar.indexCast arg15
  let c48_38 : Index := 48#32
  ![v75.toNat, 48]
def k0_off42 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let v79 : Index := Scalar.indexCast arg15
  let c64_39 : Index := 64#32
  ![v79.toNat, 64]
def k0_off43 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let v83 : Index := Scalar.indexCast arg15
  let c80_40 : Index := 80#32
  ![v83.toNat, 80]
def k0_off44 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let v87 : Index := Scalar.indexCast arg15
  let c96_41 : Index := 96#32
  ![v87.toNat, 96]
def k0_off45 (k0_t6 : Fin k0_t6_loop.trips) : Fin 2 → Nat :=
  let c0_i32_31 : BitVec 32 := 0#32
  let c1_i32_33 : BitVec 32 := 1#32
  let arg15 : BitVec 32 := Scf.iv c0_i32_31 c1_i32_33 k0_t6
  let v91 : Index := Scalar.indexCast arg15
  let c112_42 : Index := 112#32
  ![v91.toNat, 112]
def k0_off46 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35_r3 : BitVec 32 := 0#32
  ![v1.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_count" => some ((1 / 200705 : ℝ) : EReal)
  | _ => none
-- ==== ReferenceIdeal.lean ====
abbrev S204800 : Shape := ⟨1, ![204800]⟩
abbrev S4096 : Shape := ⟨1, ![4096]⟩
abbrev S100000x128 : Shape := ⟨2, ![100000, 128]⟩
abbrev S128x1024 : Shape := ⟨2, ![128, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S204800x1 : Shape := ⟨2, ![204800, 1]⟩
abbrev S1 : Shape := ⟨1, ![1]⟩
abbrev S1x1 : Shape := ⟨2, ![1, 1]⟩
abbrev S204800x128 : Shape := ⟨2, ![204800, 128]⟩
abbrev S1x4096 : Shape := ⟨2, ![1, 4096]⟩
abbrev S204800x4096 : Shape := ⟨2, ![204800, 4096]⟩
abbrev S4096x128 : Shape := ⟨2, ![4096, 128]⟩
abbrev S4096x1 : Shape := ⟨2, ![4096, 1]⟩
abbrev S4096x1024 : Shape := ⟨2, ![4096, 1024]⟩
abbrev S1x1024 : Shape := ⟨2, ![1, 1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S204800, .i32⟩
  | .hbm, ⟨1, _⟩ => ⟨S4096, .i32⟩
  | .hbm, ⟨2, _⟩ => ⟨S100000x128, .f32⟩
  | .hbm, ⟨3, _⟩ => ⟨S128x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S_, .i32⟩
  | .hbm, ⟨8, _⟩ => ⟨S204800, .i32⟩
  | .hbm, ⟨9, _⟩ => ⟨S204800, .i1⟩
  | .hbm, ⟨10, _⟩ => ⟨S_, .i32⟩
  | .hbm, ⟨11, _⟩ => ⟨S204800, .i32⟩
  | .hbm, ⟨12, _⟩ => ⟨S204800, .i32⟩
  | .hbm, ⟨13, _⟩ => ⟨S204800, .i32⟩
  | .hbm, ⟨14, _⟩ => ⟨S204800x1, .i32⟩
  | .hbm, ⟨15, _⟩ => ⟨S1, .i32⟩
  | .hbm, ⟨16, _⟩ => ⟨S_, .i32⟩
  | .hbm, ⟨17, _⟩ => ⟨S204800x1, .i32⟩
  | .hbm, ⟨18, _⟩ => ⟨S204800x1, .i1⟩
  | .hbm, ⟨19, _⟩ => ⟨S1x1, .i32⟩
  | .hbm, ⟨20, _⟩ => ⟨S204800x1, .i32⟩
  | .hbm, ⟨21, _⟩ => ⟨S204800x1, .i1⟩
  | .hbm, ⟨22, _⟩ => ⟨S204800x1, .i1⟩
  | .hbm, ⟨23, _⟩ => ⟨S_, .i1⟩
  | .hbm, ⟨24, _⟩ => ⟨S204800, .i1⟩
  | .hbm, ⟨25, _⟩ => ⟨S204800x128, .f32⟩
  | .hbm, ⟨26, _⟩ => ⟨S204800x128, .i1⟩
  | .hbm, ⟨27, _⟩ => ⟨S_, .f32⟩
  | .hbm, ⟨28, _⟩ => ⟨S204800x128, .f32⟩
  | .hbm, ⟨29, _⟩ => ⟨S204800x128, .f32⟩
  | .hbm, ⟨30, _⟩ => ⟨S204800, .i32⟩
  | .hbm, ⟨31, _⟩ => ⟨S1x4096, .i32⟩
  | .hbm, ⟨32, _⟩ => ⟨S204800x1, .i32⟩
  | .hbm, ⟨33, _⟩ => ⟨S204800x4096, .i32⟩
  | .hbm, ⟨34, _⟩ => ⟨S204800x4096, .i32⟩
  | .hbm, ⟨35, _⟩ => ⟨S204800x4096, .i1⟩
  | .hbm, ⟨36, _⟩ => ⟨S204800x4096, .i32⟩
  | .hbm, ⟨37, _⟩ => ⟨S_, .i32⟩
  | .hbm, ⟨38, _⟩ => ⟨S204800, .i32⟩
  | .hbm, ⟨39, _⟩ => ⟨S_, .i32⟩
  | .hbm, ⟨40, _⟩ => ⟨S204800, .i32⟩
  | .hbm, ⟨41, _⟩ => ⟨S204800, .i32⟩
  | .hbm, ⟨42, _⟩ => ⟨S_, .f32⟩
  | .hbm, ⟨43, _⟩ => ⟨S4096x128, .f32⟩
  | .hbm, ⟨44, _⟩ => ⟨S204800x1, .i32⟩
  | .hbm, ⟨45, _⟩ => ⟨S4096x128, .f32⟩
  | .hbm, ⟨46, _⟩ => ⟨S_, .f32⟩
  | .hbm, ⟨47, _⟩ => ⟨S204800, .f32⟩
  | .hbm, ⟨48, _⟩ => ⟨S_, .f32⟩
  | .hbm, ⟨49, _⟩ => ⟨S4096, .f32⟩
  | .hbm, ⟨50, _⟩ => ⟨S204800x1, .i32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x128, .f32⟩
  | .hbm, ⟨57, _⟩ => ⟨S4096x128, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x128, .f32⟩
  | .hbm, ⟨66, _⟩ => ⟨S1x128, .f32⟩
  | .hbm, ⟨67, _⟩ => ⟨S4096x128, .f32⟩
  | .hbm, ⟨68, _⟩ => ⟨S4096x128, .f32⟩
  | _, _ => ⟨S204800, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_v8 : Ref sig .tc := ⟨.hbm, 38, rfl⟩
abbrev main_c_0 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call1_cst : Ref sig .tc := ⟨.hbm, 62, rfl⟩
abbrev main_call1_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩

abbrev nD : Nat := 1
abbrev τ : Topo := Topo.v7x

variable {F : FTy → Type} [FloatOps F]
-- ==== Proof.IdealRows.lean ====
/-
  Sums of rows, as the tiles compute them: a running total of 128 lanes, kept in eight vectors of sixteen lanes, to which
  one row of a 128 × 128 buffer after the other is added. The kernel does this in five places, over three buffers; here
  the step and the loop are stated once, for any buffer and any loop of 128 trips whose region is that step.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, the pipeline's rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev 𝒱₀ : Variants := Variants.none

/-! ## The running total -/

variable [FloatOps F] [Named F]

/-- The eight vectors of sixteen lanes that hold a total of 128 lanes. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- Lanes `16 g … 16 g + 15` of a total. -/
def lanes (g : Fin 8) (v : Fin 128 → F .f32) : FVec F S16 .f32 :=
  fun i => v ⟨16 * g.val + (i 0).val, by have h : (i 0).val < 16 := (i 0).isLt; omega⟩

/-- A total as the eight vectors. -/
def tup (v : Fin 128 → F .f32) : Acc F :=
  (lanes 0 v, lanes 1 v, lanes 2 v, lanes 3 v, lanes 4 v, lanes 5 v, lanes 6 v, lanes 7 v)

/-- The total of the first `n` rows of `R`, added from zero in order. -/
def sumTo (R : ℕ → Fin 128 → F .f32) : ℕ → Fin 128 → F .f32
  | 0 => fun _ => Scalar.ofBits .f32 0x00000000#32
  | n + 1 => fun c => FloatOps.addf (sumTo R n c) (R n c)

/-- The 128 rows of `R` from row `b` on, as a 128 × 128 buffer holds them. -/
def tileOf (R : ℕ → Fin 128 → F .f32) (b : ℕ) : S128x128.Idx → F .f32 := fun x => R (b + (x 0).val) (x 1)

/-- The kernel's eight vectors of zeros are the total of no rows. -/
theorem zeros_eq (R : ℕ → Fin 128 → F .f32) :
    ((k0_pay7 (F := F), k0_pay8 (F := F), k0_pay9 (F := F), k0_pay10 (F := F), k0_pay11 (F := F), k0_pay12 (F := F),
      k0_pay13 (F := F), k0_pay14 (F := F)) : Acc F) = tup (sumTo R 0) := rfl

/-- The row-major position of lane `i` of a 1 × 16 vector is lane `i`. -/
theorem cast_row (v : S1x16.Idx → F .f32) (i : S16.Idx) :
    shapeCast S16 v shapeCasts_S1x16_S16 i = v (ix2 0 (i 0)) := by
  have h : ∀ k : Fin 16, Shape.reshapeEquiv shapeCasts_S1x16_S16 (ix1 k) = ix2 0 k := by decide +kernel
  rw [eq_ix1 i]
  exact congrArg v (h (i 0))

section Step

variable {c : Fin τ.nSC} {s : Fin τ.nSub}

/-- Eight loads of sixteen lanes, at the offsets `o0 … o7` of the buffer, each added to its vector. -/
def stepAt (B : Memref sig .scVector .vmem S128x128 .f32) (o0 o1 o2 o3 o4 o5 o6 o7 : Fin 2 → ℕ)
    (h0 : ∀ a, o0 a + S1x16.size a ≤ S128x128.size a) (h1 : ∀ a, o1 a + S1x16.size a ≤ S128x128.size a) (h2 : ∀ a, o2 a + S1x16.size a ≤ S128x128.size a) (h3 : ∀ a, o3 a + S1x16.size a ≤ S128x128.size a) (h4 : ∀ a, o4 a + S1x16.size a ≤ S128x128.size a) (h5 : ∀ a, o5 a + S1x16.size a ≤ S128x128.size a) (h6 : ∀ a, o6 a + S1x16.size a ≤ S128x128.size a) (h7 : ∀ a, o7 a + S1x16.size a ≤ S128x128.size a)
    (a : Acc F) : Prog (TpuEff nD τ sig (Elt F) Λ₀ (.scVector c s)) (Acc F) := do
  let v0 : Vec F S1x16 .f32 ← Prog.lift (.load B (Rect.unit (s := S128x128) o0 S1x16.size h0).toLoadRect (View.loadsAt_vmem h_S1x16))
  let v1 : Vec F S1x16 .f32 ← Prog.lift (.load B (Rect.unit (s := S128x128) o1 S1x16.size h1).toLoadRect (View.loadsAt_vmem h_S1x16))
  let v2 : Vec F S1x16 .f32 ← Prog.lift (.load B (Rect.unit (s := S128x128) o2 S1x16.size h2).toLoadRect (View.loadsAt_vmem h_S1x16))
  let v3 : Vec F S1x16 .f32 ← Prog.lift (.load B (Rect.unit (s := S128x128) o3 S1x16.size h3).toLoadRect (View.loadsAt_vmem h_S1x16))
  let v4 : Vec F S1x16 .f32 ← Prog.lift (.load B (Rect.unit (s := S128x128) o4 S1x16.size h4).toLoadRect (View.loadsAt_vmem h_S1x16))
  let v5 : Vec F S1x16 .f32 ← Prog.lift (.load B (Rect.unit (s := S128x128) o5 S1x16.size h5).toLoadRect (View.loadsAt_vmem h_S1x16))
  let v6 : Vec F S1x16 .f32 ← Prog.lift (.load B (Rect.unit (s := S128x128) o6 S1x16.size h6).toLoadRect (View.loadsAt_vmem h_S1x16))
  let v7 : Vec F S1x16 .f32 ← Prog.lift (.load B (Rect.unit (s := S128x128) o7 S1x16.size h7).toLoadRect (View.loadsAt_vmem h_S1x16))
  pure (addf a.1 (shapeCast S16 v0 shapeCasts_S1x16_S16), addf a.2.1 (shapeCast S16 v1 shapeCasts_S1x16_S16), addf a.2.2.1 (shapeCast S16 v2 shapeCasts_S1x16_S16), addf a.2.2.2.1 (shapeCast S16 v3 shapeCasts_S1x16_S16), addf a.2.2.2.2.1 (shapeCast S16 v4 shapeCasts_S1x16_S16), addf a.2.2.2.2.2.1 (shapeCast S16 v5 shapeCasts_S1x16_S16), addf a.2.2.2.2.2.2.1 (shapeCast S16 v6 shapeCasts_S1x16_S16), addf a.2.2.2.2.2.2.2 (shapeCast S16 v7 shapeCasts_S1x16_S16))

/-- One step: row `k` of the buffer, loaded sixteen lanes at a time and added to the eight vectors. -/
def rowStep (B : Memref sig .scVector .vmem S128x128 .f32) (k : ℕ) (h : ∀ g : Fin 8, ∀ a, (![k, 16 * g.val] : Fin 2 → ℕ) a + S1x16.size a ≤ S128x128.size a)
    (a : Acc F) : Prog (TpuEff nD τ sig (Elt F) Λ₀ (.scVector c s)) (Acc F) :=
  stepAt B ![k, 0] ![k, 16] ![k, 32] ![k, 48] ![k, 64] ![k, 80] ![k, 96] ![k, 112] (h 0) (h 1) (h 2) (h 3) (h 4) (h 5) (h 6) (h 7) a

/-- Eight loads whose offsets are row `k`'s are one step. -/
theorem stepAt_eq (B : Memref sig .scVector .vmem S128x128 .f32) (k : ℕ)
    (h : ∀ g : Fin 8, ∀ a, (![k, 16 * g.val] : Fin 2 → ℕ) a + S1x16.size a ≤ S128x128.size a) (a : Acc F)
    {o0 o1 o2 o3 o4 o5 o6 o7 : Fin 2 → ℕ}
    (h0 : ∀ a, o0 a + S1x16.size a ≤ S128x128.size a) (h1 : ∀ a, o1 a + S1x16.size a ≤ S128x128.size a) (h2 : ∀ a, o2 a + S1x16.size a ≤ S128x128.size a) (h3 : ∀ a, o3 a + S1x16.size a ≤ S128x128.size a) (h4 : ∀ a, o4 a + S1x16.size a ≤ S128x128.size a) (h5 : ∀ a, o5 a + S1x16.size a ≤ S128x128.size a) (h6 : ∀ a, o6 a + S1x16.size a ≤ S128x128.size a) (h7 : ∀ a, o7 a + S1x16.size a ≤ S128x128.size a)
    (e0 : o0 = ![k, 0]) (e1 : o1 = ![k, 16]) (e2 : o2 = ![k, 32]) (e3 : o3 = ![k, 48]) (e4 : o4 = ![k, 64]) (e5 : o5 = ![k, 80]) (e6 : o6 = ![k, 96]) (e7 : o7 = ![k, 112]) :
    stepAt (c := c) (s := s) B o0 o1 o2 o3 o4 o5 o6 o7 h0 h1 h2 h3 h4 h5 h6 h7 a = rowStep B k h a := by
  subst e0 e1 e2 e3 e4 e5 e6 e7
  rfl

/-- What one of the eight loads adds: the buffer's row `k` at the sixteen lanes. -/
theorem lane_step (R : ℕ → Fin 128 → F .f32) (b k : ℕ) (hk : k < 128) (g : Fin 8) (n : ℕ) (hn : n = 16 * g.val)
    (B : Memref sig .scVector .vmem S128x128 .f32) (f : B.view.ty.Contents (Elt F))
    (hf : B.view.read (Elt F) f = tileOf R b) (h : ∀ a, (![k, n] : Fin 2 → ℕ) a + S1x16.size a ≤ S128x128.size a) :
    addf (lanes g (sumTo R (b + k))) (shapeCast S16 (B.view.readAt (Elt F) (Rect.unit (s := S128x128) ![k, n] S1x16.size h).toLoadRect f) shapeCasts_S1x16_S16)
      = lanes g (sumTo R (b + k + 1)) := by
  subst hn
  funext i
  show FloatOps.addf _ (shapeCast S16 _ _ i) = FloatOps.addf _ _
  rw [cast_row]
  congr 1
  show B.view.read (Elt F) f _ = _
  rw [hf]
  show R _ _ = R _ _
  congr 1
  apply Fin.ext
  show 16 * g.val + 1 * (i 0).val = 16 * g.val + (i 0).val
  omega

/-- One step takes the total of `b + k` rows to that of `b + k + 1`, where the buffer holds rows `b …` of `R`. -/
theorem wp_rowStep (R : ℕ → Fin 128 → F .f32) (b k : ℕ) (hk : k < 128) (d : Dev nD)
    (B : Memref sig .scVector .vmem S128x128 .f32) (f : Buf (Elt F) (B.view.loc (V d c s)))
    (hf : B.view.read (Elt F) f = tileOf R b)
    (h : ∀ g : Fin 8, ∀ a, (![k, 16 * g.val] : Fin 2 → ℕ) a + S1x16.size a ≤ S128x128.size a) :
    (B.view.loc (V d c s) ↦[B.view.set]{fullShare} f : sProp 𝕄)
      ⊢ wp frame (wpE (defs₀ (F := F)) 𝒱₀ (V d c s) none) Set.univ (rowStep B k h (tup (sumTo R (b + k))))
          fun a => iprop(⌜a = tup (sumTo R (b + k + 1))⌝ ∗ B.view.loc (V d c s) ↦[B.view.set]{fullShare} f) := by
  unfold rowStep stepAt
  iintro HB
  sl_exec
  sl_steps
  isplitr [HB]
  · ipureintro
    exact congrArg₂ Prod.mk (lane_step R b k hk 0 0 rfl B f hf _) <| congrArg₂ Prod.mk (lane_step R b k hk 1 16 rfl B f hf _) <|
      congrArg₂ Prod.mk (lane_step R b k hk 2 32 rfl B f hf _) <| congrArg₂ Prod.mk (lane_step R b k hk 3 48 rfl B f hf _) <|
      congrArg₂ Prod.mk (lane_step R b k hk 4 64 rfl B f hf _) <| congrArg₂ Prod.mk (lane_step R b k hk 5 80 rfl B f hf _) <|
      congrArg₂ Prod.mk (lane_step R b k hk 6 96 rfl B f hf _) (lane_step R b k hk 7 112 rfl B f hf _)
  · iexact HB

/-- Sixteen lanes from lane `16 g` of row `k` lie in the buffer. -/
theorem row_inb (k : ℕ) (hk : k < 128) (g : Fin 8) (a : Fin 2) :
    (![k, 16 * g.val] : Fin 2 → ℕ) a + S1x16.size a ≤ S128x128.size a := by
  match a with
  | 0 => show k + 1 ≤ 128; omega
  | 1 => show 16 * g.val + 16 ≤ 128; omega

/-- A loop of 128 such steps, from the total of `b` rows: the total of `b + 128` rows, the buffer holding rows `b …`. -/
theorem wp_rows (R : ℕ → Fin 128 → F .f32) (b : ℕ) (d : Dev nD)
    (B : Memref sig .scVector .vmem S128x128 .f32) (f : Buf (Elt F) (B.view.loc (V d c s)))
    (hf : B.view.read (Elt F) f = tileOf R b)
    (L : Scf.Loop 32) (hok : L.OK) (hL : L.trips = 128)
    (body : Fin L.trips → Acc F → Prog (TpuEff nD τ sig (Elt F) Λ₀ (.scVector c s)) (Acc F))
    (hbody : ∀ (k : Fin L.trips) (v : Fin 128 → F .f32), body k (tup v) = rowStep B k.val (row_inb k.val (hL ▸ k.isLt)) (tup v))
    {β : Type} {kk : Acc F → Prog (TpuEff nD τ sig (Elt F) Λ₀ (.scVector c s)) β} {Q : β → sProp 𝕄} :
    (B.view.loc (V d c s) ↦[B.view.set]{fullShare} f : sProp 𝕄)
      ⊢ iprop(((B.view.loc (V d c s) ↦[B.view.set]{fullShare} f)
          -∗ wp frame (wpE (defs₀ (F := F)) 𝒱₀ (V d c s) none) Set.univ (kk (tup (sumTo R (b + 128)))) Q)
        -∗ wp frame (wpE (defs₀ (F := F)) 𝒱₀ (V d c s) none) Set.univ (Scf.Loop.for L hok (tup (sumTo R b)) body >>= kk) Q) := by
  iintro HB HK
  iapply (Scf.wp_for_bind frame (wpE (defs₀ (F := F)) 𝒱₀ (V d c s) none) Set.univ L.lb L.ub L.st hok (tup (sumTo R b)) body
    (fun n a => iprop(⌜a = tup (sumTo R (b + n))⌝ ∗ B.view.loc (V d c s) ↦[B.view.set]{fullShare} f))
    (fun k a => by
      iintro ⟨%ha, HB⟩
      subst ha
      rw [hbody]
      iapply (wp_rowStep R b k.val (hL ▸ k.isLt) d B f hf _) $$ HB)) $$ [HB]
  · isplitr [HB]
    · ipureintro; rfl
    · iexact HB
  · iintro %a ⟨%ha, HB⟩
    have ha' : a = tup (sumTo R (b + 128)) := by rw [ha]; show tup (sumTo R (b + L.trips)) = _; rw [hL]
    subst ha'
    iapply HK $$ HB

end Step

end Cert.Proof.KernelIdeal

end
-- ==== Proof.IdealStream.lean ====
/-
  The row gathers of a tile: a list of 128 token words, the table's rows those words name, and a 128 × 128 buffer. Three
  are in flight at a time, so each takes a share of the table and of its list. Here: what a gather delivers, how one is
  started and how one is awaited, for any of the tile's buffers and lists.
-/
module

public import proofs.«01_k».proof.Proof.IdealRows

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg2_scv : Memref Cert.KernelIdeal.sig Kind.scVector Space.hbm Cert.KernelIdeal.S100000x128 EltTy.f32)

variable [FloatOps F] [Named F]

/-! ## The rows a list of words names -/

/-- The table's row for the token word `x`, read modulo the number of rows (a word in range names itself). -/
def rowAt (T : S100000x128.Idx → F .f32) (x : BitVec 32) (c : Fin 128) : F .f32 :=
  T (ix2 ⟨x.toNat % 100000, Nat.mod_lt _ (by decide)⟩ c)

/-- The `n`-th token word, read modulo the number of tokens. -/
def tok (I : S204800.Idx → BitVec 32) (n : ℕ) : BitVec 32 := I (ix1 ⟨n % 204800, Nat.mod_lt _ (by decide)⟩)

/-- The table's rows for the tokens from `b` on. -/
def tokRows (I : S204800.Idx → BitVec 32) (T : S100000x128.Idx → F .f32) (b n : ℕ) (c : Fin 128) : F .f32 :=
  rowAt T (tok I (b + n)) c

/-- All of the table, as the tile addresses it. -/
abbrev tAll : Memref sig .scVector .hbm S100000x128 .f32 :=
  (tV).slice (Rect.unit (s := S100000x128) ![0, 0] S100000x128.size inb_S100000x128_S100000x128_0_0) (fun _ => rfl)

theorem tAll_idx (x : S100000x128.Idx) :
    (Rect.unit (s := S100000x128) ![0, 0] S100000x128.size inb_S100000x128_S100000x128_0_0).toLoadRect.idx x = x := by
  funext a
  apply Fin.ext
  match a with
  | 0 => show 0 + 1 * (x 0).val = (x 0).val; omega
  | 1 => show 0 + 1 * (x 1).val = (x 1).val; omega

theorem set_tAll : (tAll).view.set = Finset.univ := by
  apply Finset.eq_univ_of_forall
  intro x
  exact Finset.mem_map.mpr ⟨x, Finset.mem_univ _, tAll_idx x⟩

theorem read_tAll (T : S100000x128.Idx → F .f32) : (tAll).view.read (Elt F) T = T := by
  funext x
  exact congrArg T (tAll_idx x)

/-- What the gather brings: row `k` of the buffer is the table's row for the list's word `k`. -/
theorem payload_eq (T : S100000x128.Idx → F .f32) (l : S128.Idx → BitVec 32)
    (hn : S128.numel = S128x128.size gathers_S100000x128_S128x128.axis')
    (hin : ∀ x, (l x).toNat < S100000x128.size gathers_S100000x128_S128x128.axis) (x : S128x128.Idx) :
    SparseCore.gatherPayload (F := F) (e := .f32) gathers_S100000x128_S128x128 ((tAll).view.read (Elt F) T)
        (SparseCore.rows (F := F) l hn hin) x = rowAt T (l (ix1 (x 0))) (x 1) := by
  rw [read_tAll]
  have hk : ∀ k : Fin 128, S128.rowMajor.symm (k.cast hn.symm) = ix1 k := fun k => by
    rw [Equiv.symm_apply_eq]
    exact Fin.ext (Shape.rowMajor_val_one (ix1 k)).symm
  refine congrArg T (funext fun a => Fin.ext ?_)
  match a with
  | 0 =>
    refine (congrArg Fin.val (Shape.Gathers.idx_axis gathers_S100000x128_S128x128 (SparseCore.rows (F := F) l hn hin) x)).trans ?_
    show (l (S128.rowMajor.symm ((x 0).cast hn.symm))).toNat = (l (ix1 (x 0))).toNat % 100000
    rw [hk (x 0)]
    exact (Nat.mod_eq_of_lt (hin _)).symm
  | 1 => exact Shape.Gathers.idx_of_ne gathers_S100000x128_S128x128 (SparseCore.rows (F := F) l hn hin) x 1 (by decide)

section Gather

variable {c : Fin τ.nSC} {s : Fin τ.nSub}

abbrev tLoc (d : Dev nD) : Loc nD τ sig := (SparseCore.T d).loc main_arg2

/-- What a gather brings to buffer `B`: rows `o …` of `R`, the table's share and the list's. -/
def Brought (d : Dev nD) (B : Memref sig .scVector .vmem S128x128 .f32) (R : ℕ → Fin 128 → F .f32) (o : ℕ)
    (q : PosShare TreeShare) (Tb : Buf (Elt F) (tLoc d)) (lst : Memref sig .scVector .vmem S128 .i32) (qo : PosShare TreeShare)
    (J : Buf (Elt F) (lst.view.loc (V d c s))) : sProp 𝕄 :=
  iprop((∃ f, ⌜B.view.read (Elt F) f = tileOf R o⌝ ∗ (B.view.loc (V d c s) ↦[B.view.set]{fullShare} f))
    ∗ (tLoc d ↦{q} Tb) ∗ (lst.view.loc (V d c s) ↦[lst.view.set]{qo} J))

/-- Starting a gather, with shares of the table and of the list whose words are in range. -/
theorem wp_gather (d : Dev nD) (B : Memref sig .scVector .vmem S128x128 .f32) (R : ℕ → Fin 128 → F .f32) (o : ℕ)
    (q : PosShare TreeShare) (Tb : Buf (Elt F) (tLoc d)) (lst : Memref sig .scVector .vmem S128 .i32) (qo : PosShare TreeShare)
    (J : Buf (Elt F) (lst.view.loc (V d c s))) (sem : DmaSem sig)
    (hN : ∀ h : S100000x128.Gathers 0 S128x128, ∑ j, (B.slice (S128x128.rowRect h.axis' j) (S128x128.stride_rowRect h.axis' j)).view.dmaCredit = B.view.dmaCredit)
    (hJ : ∀ x, (lst.view.read (Elt F) J x).toNat < 100000)
    (hR : ∀ (k : Fin 128) (j : Fin 128), rowAt (F := F) Tb (lst.view.read (Elt F) J (ix1 k)) j = R (o + k.val) j)
    {hn : S128.numel = S128x128.size gathers_S100000x128_S128x128.axis'}
    {hp : (Proc.scVector c s : Proc τ).kind = .scVector} {hsrc : (tAll).view.WordExact} {he : EltTy.f32.bits = 32} {hsp : Space.hbm = .hbm ∨ Space.hbm = .shared}
    {hr : S100000x128.StreamRows 0}
    {fd : Buf (Elt F) (B.view.loc (V d c s))}
    {β : Type} {k : PUnit → Prog (TpuEff nD τ sig (Elt F) Λ₀ (.scVector c s)) β} {Q : β → sProp 𝕄} :
    iprop((tLoc d ↦{q} Tb) ∗ (B.view.loc (V d c s) ↦[B.view.set]{fullShare} fd)
        ∗ (lst.view.loc (V d c s) ↦[lst.view.set]{qo} J) ∗ semVal (V d c s, SemLoc.dma sem) 0)
      ⊢ iprop((Transfers.Flight countersEmb (V d c s) (.dma sem) (default : HIx 1) B.view.dmaCredit
            (Brought (c := c) (s := s) d B R o q Tb lst qo J)
          -∗ wp frame (wpE (defs₀ (F := F)) 𝒱₀ (V d c s) none) Set.univ (k ⟨⟩) Q)
        -∗ wp frame (wpE (defs₀ (F := F)) 𝒱₀ (V d c s) none) Set.univ
            (SparseCore.enqueueIndirectGather hp tAll B gathers_S100000x128_S128x128 lst hn sem hsrc he hsp hr >>= k) Q) := by
  iintro ⟨Ht, HB, Hl, Hs⟩ HK
  ihave Ht' := (Entails.of_eq (show (tLoc d ↦{q} Tb : sProp 𝕄) = (tAll).view.loc (V d c s) ↦[(tAll).view.set]{q} Tb by rw [set_tAll])) $$ Ht
  iapply (SparseCore.wp_indirectGatherLocal countersEmb 𝒱₀ (V d c s) none (hg := gathers_S100000x128_S128x128) (default : HIx 1)
      B.view.dmaCredit (hN _) (by decide) hJ) $$ [Ht' HB Hl Hs]
  · isplitl [Ht']; · iexact Ht'
    isplitl [HB]; · iexact HB
    isplitl [Hl]; · iexact Hl
    iexact Hs
  iintro Hfl
  iapply HK
  iapply (Transfers.Flight_mono countersEmb (V d c s) ?_) $$ Hfl
  unfold Brought
  iintro ⟨HB, Ht, Hl⟩
  isplitl [HB]
  · iexists _; isplitr
    swap; · iexact HB
    ipureintro
    rw [View.read_write_univ]
    funext x
    exact (payload_eq Tb _ hn hJ x).trans (hR (x 0) (x 1))
  isplitl [Ht]
  · iapply (Entails.of_eq (show (tLoc d ↦{q} Tb : sProp 𝕄) = (tAll).view.loc (V d c s) ↦[(tAll).view.set]{q} Tb by rw [set_tAll]).symm) $$ Ht
  iexact Hl

/-- What a thread owes, its own waits recorded beyond `W`. -/
def Owed (thr : Thread nD τ) (O : CellTallies nD τ sig (HIx 1)) (W : Waits sig (HIx 1)) : sProp 𝕄 :=
  iprop(∃ W', ⌜∀ p ∈ W', p ∈ W ∨ p.2 = none⌝ ∗ owes thr O W')

/-- Awaiting a gather. -/
theorem wp_await (d : Dev nD) (B : Memref sig .scVector .vmem S128x128 .f32) (sem : DmaSem sig) (D : sProp 𝕄)
    (O : CellTallies nD τ sig (HIx 1)) (W : Waits sig (HIx 1))
    {hsrc : (tAll).view.WordExact} {hdst : B.view.WordExact}
    {β : Type} {k : PUnit → Prog (TpuEff nD τ sig (Elt F) Λ₀ (.scVector c s)) β} {Q : β → sProp 𝕄} :
    iprop(Transfers.Flight countersEmb (V d c s) (.dma sem) (default : HIx 1) B.view.dmaCredit D ∗ Owed (V d c s) O W
        ∗ Transfers.MayWaits (V d c s) (default : HIx 1) O)
      ⊢ iprop((iprop(D ∗ semVal (V d c s, SemLoc.dma sem) 0 ∗ Owed (V d c s) O W)
          -∗ wp frame (wpE (defs₀ (F := F)) 𝒱₀ (V d c s) none) Set.univ (k ⟨⟩) Q)
        -∗ wp frame (wpE (defs₀ (F := F)) 𝒱₀ (V d c s) none) Set.univ
            (SparseCore.waitIndirectGather sem tAll B hsrc hdst >>= k) Q) := by
  unfold Owed
  iintro ⟨Hfl, ⟨%W', %hW', HO⟩, Hmw⟩ HK
  iapply (Transfers.wp_waitLocalO countersEmb 𝒱₀ (V d c s) none (default : HIx 1) (rfl : B.view.dmaCredit = _)) $$ [Hfl HO Hmw]
  · isplitl [Hfl]; · iexact Hfl
    isplitl [HO]; · iexact HO
    iapply (Transfers.MayWaits.elim (SemLoc.dma sem)) $$ Hmw
  iintro ⟨HD, Hs, HO⟩
  iapply HK
  isplitl [HD]; · iexact HD
  isplitl [Hs]; · iexact Hs
  iexists _; isplitr
  swap; · iexact HO
  ipureintro; intro p hp
  rcases Finset.mem_insert.mp hp with hp | hp
  · exact .inr (hp ▸ rfl)
  · exact hW' p hp

end Gather

end Cert.Proof.KernelIdeal

end
-- ==== Proof.IdealTile.lean ====
/-
  One tile's task: its 6400 token words and its 128 bag words fetched; the gathers of its rows, three in flight; the
  bag's rows summed and written out; the fifty chunks of its tokens' rows summed, two gathers always ahead; and the
  difference of the two totals written out.
-/
module

public import proofs.«01_k».proof.Proof.IdealStream

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "eV" => (Memref.whole Cert.KernelIdeal.main_v0_0_scv : Memref Cert.KernelIdeal.sig Kind.scVector Space.hbm Cert.KernelIdeal.S4096x128 EltTy.f32)
local notation "pV" => (Memref.whole Cert.KernelIdeal.main_v0_1_scv : Memref Cert.KernelIdeal.sig Kind.scVector Space.hbm Cert.KernelIdeal.S32x128 EltTy.f32)
local notation "s0" => (Memref.whole Cert.KernelIdeal.cc0_scratch0 : Memref Cert.KernelIdeal.sig Kind.scVector Space.vmem Cert.KernelIdeal.S6400 EltTy.i32)
local notation "s1" => (Memref.whole Cert.KernelIdeal.cc0_scratch1 : Memref Cert.KernelIdeal.sig Kind.scVector Space.vmem Cert.KernelIdeal.S128 EltTy.i32)
local notation "s2" => (Memref.whole Cert.KernelIdeal.cc0_scratch2 : Memref Cert.KernelIdeal.sig Kind.scVector Space.vmem Cert.KernelIdeal.S128x128 EltTy.f32)
local notation "s3" => (Memref.whole Cert.KernelIdeal.cc0_scratch3 : Memref Cert.KernelIdeal.sig Kind.scVector Space.vmem Cert.KernelIdeal.S128x128 EltTy.f32)
local notation "s4" => (Memref.whole Cert.KernelIdeal.cc0_scratch4 : Memref Cert.KernelIdeal.sig Kind.scVector Space.vmem Cert.KernelIdeal.S128x128 EltTy.f32)
local notation "s5" => (Memref.whole Cert.KernelIdeal.cc0_scratch5 : Memref Cert.KernelIdeal.sig Kind.scVector Space.vmem Cert.KernelIdeal.S128 EltTy.f32)

variable [FloatOps F] [Named F]

section Tile

variable (d : Dev nD) (L : grid0.Coords)

abbrev cV (L : grid0.Coords) : Fin τ.nSC := (L 0).castLE hcore0
abbrev jV (L : grid0.Coords) : Fin τ.nSub := (L 1).castLE hsub0

/-! ## The gathers by a slice of the token list -/

/-- 128 words of the tile's token list. -/
abbrev lstAt (off : Fin 1 → ℕ) (h : ∀ a, off a + S128.size a ≤ S6400.size a) : Memref sig .scVector .vmem S128 .i32 :=
  (s0).slice (Rect.unit (s := S6400) off S128.size h) (fun _ => rfl)

/-- The tile's token list in its scratch: words `b …` of the tokens. -/
def lstOf (I : S204800.Idx → BitVec 32) (b : ℕ) : S6400.Idx → BitVec 32 := fun x => tok I (b + (x 0).val)

/-- The list's share is a share of 128 of its words and one of the rest. -/
theorem lst_split (qo : PosShare TreeShare) (J : S6400.Idx → BitVec 32) (off : Fin 1 → ℕ) (h : ∀ a, off a + S128.size a ≤ S6400.size a) :
    ((s0).view.loc (V d (cV L) (jV L)) ↦{qo} (J : Buf (Elt F) ((s0).view.loc (V d (cV L) (jV L)))) : sProp 𝕄)
      = iprop(((lstAt off h).view.loc (V d (cV L) (jV L)) ↦[(lstAt off h).view.set]{qo} (J : Buf (Elt F) ((s0).view.loc (V d (cV L) (jV L)))))
        ∗ ((s0).view.loc (V d (cV L) (jV L)) ↦[Finset.univ \ (lstAt off h).view.set]{qo} (J : Buf (Elt F) ((s0).view.loc (V d (cV L) (jV L)))))) :=
  BI.Entails.antisymm (pointsTo_split_subset (Finset.subset_univ _)).1 (pointsTo_split_subset (Finset.subset_univ _)).2

/-- A gather in flight into `B`, of the rows for the 128 words at `o` of the tile's token list. -/
def Going (I : S204800.Idx → BitVec 32) (b : ℕ) (Tb : Buf (Elt F) (tLoc d)) (B : Memref sig .scVector .vmem S128x128 .f32) (sem : DmaSem sig)
    (q qo : PosShare TreeShare) (o : ℕ) : sProp 𝕄 :=
  iprop(∃ off h, Transfers.Flight countersEmb (V d (cV L) (jV L)) (.dma sem) (default : HIx 1) B.view.dmaCredit
        (Brought (c := cV L) (s := jV L) d B (tokRows I Tb b) o q Tb (lstAt off h) qo (lstOf I b))
      ∗ ((s0).view.loc (V d (cV L) (jV L)) ↦[Finset.univ \ (lstAt off h).view.set]{qo} (lstOf I b : Buf (Elt F) ((s0).view.loc (V d (cV L) (jV L))))))

theorem wp_start (I : S204800.Idx → BitVec 32) (hI : ∀ n, (tok I n).toNat < 100000) (b : ℕ) (Tb : Buf (Elt F) (tLoc d))
    (B : Memref sig .scVector .vmem S128x128 .f32) (sem : DmaSem sig)
    (hN : ∀ h : S100000x128.Gathers 0 S128x128, ∑ j, (B.slice (S128x128.rowRect h.axis' j) (S128x128.stride_rowRect h.axis' j)).view.dmaCredit = B.view.dmaCredit)
    (q qo : PosShare TreeShare) (o : ℕ) (off : Fin 1 → ℕ) (h : ∀ a, off a + S128.size a ≤ S6400.size a) (ho : off 0 = o)
    {hn : S128.numel = S128x128.size gathers_S100000x128_S128x128.axis'}
    {hp : (Proc.scVector (cV L) (jV L) : Proc τ).kind = .scVector} {hsrc : (tAll).view.WordExact} {he : EltTy.f32.bits = 32} {hsp : Space.hbm = .hbm ∨ Space.hbm = .shared}
    {hr : S100000x128.StreamRows 0}
    {fd : Buf (Elt F) (B.view.loc (V d (cV L) (jV L)))}
    {β : Type} {k : PUnit → Prog (TpuEff nD τ sig (Elt F) Λ₀ (.scVector (cV L) (jV L))) β} {Q : β → sProp 𝕄} :
    iprop((tLoc d ↦{q} Tb) ∗ (B.view.loc (V d (cV L) (jV L)) ↦[B.view.set]{fullShare} fd)
        ∗ ((s0).view.loc (V d (cV L) (jV L)) ↦{qo} (lstOf I b : Buf (Elt F) ((s0).view.loc (V d (cV L) (jV L))))) ∗ semVal (V d (cV L) (jV L), SemLoc.dma sem) 0)
      ⊢ iprop((Going d L I b Tb B sem q qo o
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.enqueueIndirectGather hp tAll B gathers_S100000x128_S128x128 (lstAt off h) hn sem hsrc he hsp hr >>= k) Q) := by
  have hread : ∀ x : S128.Idx, (lstAt off h).view.read (Elt F) (lstOf I b) x = tok I (b + (o + (x 0).val)) := fun x => by
    subst ho
    show tok I (b + (off 0 + 1 * (x 0).val)) = _
    rw [one_mul]
  iintro ⟨Ht, HB, Hl, Hs⟩ HK
  ihave Hl' := (Entails.of_eq (lst_split (F := F) d L qo (lstOf I b) off h)) $$ Hl
  icases Hl' with ⟨Hl, Hrest⟩
  iapply (wp_gather (c := cV L) (s := jV L) d B (tokRows I Tb b) o q Tb (lstAt off h) qo (lstOf I b) sem hN
    (fun x => by rw [hread]; exact hI _) (fun k j => by rw [hread]; rfl)) $$ [Ht HB Hl Hs]
  · isplitl [Ht]; · iexact Ht
    isplitl [HB]; · iexact HB
    isplitl [Hl]; · iexact Hl
    iexact Hs
  iintro Hfl
  iapply HK
  unfold Going
  iexists off, h
  isplitl [Hfl]; · iexact Hfl
  iexact Hrest

/-- Awaiting it: the buffer holds the rows, and the shares are back. -/
theorem wp_finish (I : S204800.Idx → BitVec 32) (b : ℕ) (Tb : Buf (Elt F) (tLoc d))
    (B : Memref sig .scVector .vmem S128x128 .f32) (sem : DmaSem sig) (q qo : PosShare TreeShare) (o : ℕ)
    (O : CellTallies nD τ sig (HIx 1)) (W : Waits sig (HIx 1))
    {hsrc : (tAll).view.WordExact} {hdst : B.view.WordExact}
    {β : Type} {k : PUnit → Prog (TpuEff nD τ sig (Elt F) Λ₀ (.scVector (cV L) (jV L))) β} {Q : β → sProp 𝕄} :
    iprop(Going d L I b Tb B sem q qo o ∗ Owed (V d (cV L) (jV L)) O W ∗ Transfers.MayWaits (V d (cV L) (jV L)) (default : HIx 1) O)
      ⊢ iprop((∀ f, ⌜B.view.read (Elt F) f = tileOf (tokRows I Tb b) o⌝ -∗ (B.view.loc (V d (cV L) (jV L)) ↦[B.view.set]{fullShare} f)
            -∗ (tLoc d ↦{q} Tb)
            -∗ ((s0).view.loc (V d (cV L) (jV L)) ↦{qo} (lstOf I b : Buf (Elt F) ((s0).view.loc (V d (cV L) (jV L)))))
            -∗ semVal (V d (cV L) (jV L), SemLoc.dma sem) 0 -∗ Owed (V d (cV L) (jV L)) O W
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.waitIndirectGather sem tAll B hsrc hdst >>= k) Q) := by
  unfold Going
  iintro ⟨⟨%off, %h, Hfl, Hrest⟩, HO, Hmw⟩ HK
  iapply (wp_await (c := cV L) (s := jV L) d B sem _ O W) $$ [Hfl HO Hmw]
  · isplitl [Hfl]; · iexact Hfl
    isplitl [HO]; · iexact HO
    iexact Hmw
  unfold Brought
  iintro ⟨⟨⟨%f, %hf, HB⟩, Ht, Hl⟩, Hs, HO⟩
  ihave Hl' := (Entails.of_eq (lst_split (F := F) d L qo (lstOf I b) off h).symm) $$ [Hl Hrest]
  · isplitl [Hl] <;> iassumption
  iapply HK $$ %f %hf HB Ht Hl' Hs HO

end Tile

end Cert.Proof.KernelIdeal

end
-- ==== Proof.IdealLoops.lean ====
/-
  The regions of a tile's loops: the five loops over a buffer's rows are the one step of `IdealRows`, and one trip of the
  loop over chunks takes the two gathers in flight to the next two.
-/
module

public import proofs.«01_k».proof.Proof.IdealTile

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "eV" => (Memref.whole Cert.KernelIdeal.main_v0_0_scv : Memref Cert.KernelIdeal.sig Kind.scVector Space.hbm Cert.KernelIdeal.S4096x128 EltTy.f32)
local notation "pV" => (Memref.whole Cert.KernelIdeal.main_v0_1_scv : Memref Cert.KernelIdeal.sig Kind.scVector Space.hbm Cert.KernelIdeal.S32x128 EltTy.f32)
local notation "s0" => (Memref.whole Cert.KernelIdeal.cc0_scratch0 : Memref Cert.KernelIdeal.sig Kind.scVector Space.vmem Cert.KernelIdeal.S6400 EltTy.i32)
local notation "s1" => (Memref.whole Cert.KernelIdeal.cc0_scratch1 : Memref Cert.KernelIdeal.sig Kind.scVector Space.vmem Cert.KernelIdeal.S128 EltTy.i32)
local notation "s2" => (Memref.whole Cert.KernelIdeal.cc0_scratch2 : Memref Cert.KernelIdeal.sig Kind.scVector Space.vmem Cert.KernelIdeal.S128x128 EltTy.f32)
local notation "s3" => (Memref.whole Cert.KernelIdeal.cc0_scratch3 : Memref Cert.KernelIdeal.sig Kind.scVector Space.vmem Cert.KernelIdeal.S128x128 EltTy.f32)
local notation "s4" => (Memref.whole Cert.KernelIdeal.cc0_scratch4 : Memref Cert.KernelIdeal.sig Kind.scVector Space.vmem Cert.KernelIdeal.S128x128 EltTy.f32)
local notation "s5" => (Memref.whole Cert.KernelIdeal.cc0_scratch5 : Memref Cert.KernelIdeal.sig Kind.scVector Space.vmem Cert.KernelIdeal.S128 EltTy.f32)

variable [FloatOps F] [Named F]

section Loops

section Regions

variable (i : grid0.Coords) (arg2 : Memref sig .scVector .hbm S204800 .i32) (harg2 : arg2.IsWhole) (arg3 : Memref sig .scVector .hbm S100000x128 .f32) (harg3 : arg3.IsWhole) (arg4 : Memref sig .scVector .hbm S4096x128 .f32) (harg4 : arg4.IsWhole) (arg5 : Memref sig .scVector .hbm S32x128 .f32) (harg5 : arg5.IsWhole) (arg6 : Memref sig .scVector .vmem S6400 .i32) (harg6 : arg6.IsWhole) (arg7 : Memref sig .scVector .vmem S128 .i32) (harg7 : arg7.IsWhole) (arg8 : Memref sig .scVector .vmem S128x128 .f32) (harg8 : arg8.IsWhole) (arg9 : Memref sig .scVector .vmem S128x128 .f32) (harg9 : arg9.IsWhole) (arg10 : Memref sig .scVector .vmem S128x128 .f32) (harg10 : arg10.IsWhole) (arg11 : Memref sig .scVector .vmem S128 .f32) (harg11 : arg11.IsWhole) (arg12 arg13 arg14 r0 r1 r2 r3 : DmaSems sig S_) (v1 : BitVec 32)
  (v9 v10 v11 v12 v13 v14 v15 v16 : FVec F S16 .f32) (c0 : BitVec 32)

/-- The region of loop 1 is the step on the bag buffer. -/
theorem t1_region (k : Fin k0_t1_loop.trips) (v : Fin 128 → F .f32) :
    k0_t1_body i arg2 harg2 arg3 harg3 arg4 harg4 arg5 harg5 arg6 harg6 arg7 harg7 arg8 harg8 arg9 harg9 arg10 harg10 arg11 harg11 arg12 arg13 arg14 r0 r1 r2 r3 v1 v9 v10 v11 v12 v13 v14 v15 v16 c0 k (tup v) = rowStep arg10 k.val (row_inb k.val k.isLt) (tup v) := by
  exact stepAt_eq arg10 k.val (row_inb k.val k.isLt) (tup v) (k0_off3_inb k) (k0_off4_inb k) (k0_off5_inb k) (k0_off6_inb k) (k0_off7_inb k) (k0_off8_inb k) (k0_off9_inb k) (k0_off10_inb k)
    (k0_off3_eq k) (k0_off4_eq k) (k0_off5_eq k) (k0_off6_eq k) (k0_off7_eq k) (k0_off8_eq k) (k0_off9_eq k) (k0_off10_eq k)

/-- The region of loop 3 is the step on the first row buffer. -/
theorem t3_region (k : Fin k0_t3_loop.trips) (v : Fin 128 → F .f32) :
    k0_t3_body i arg2 harg2 arg3 harg3 arg4 harg4 arg5 harg5 arg6 harg6 arg7 harg7 arg8 harg8 arg9 harg9 arg10 harg10 arg11 harg11 arg12 arg13 arg14 r0 r1 r2 r3 v1 v9 v10 v11 v12 v13 v14 v15 v16 c0 k (tup v) = rowStep arg8 k.val (row_inb k.val k.isLt) (tup v) := by
  exact stepAt_eq arg8 k.val (row_inb k.val k.isLt) (tup v) (k0_off13_inb k) (k0_off14_inb k) (k0_off15_inb k) (k0_off16_inb k) (k0_off17_inb k) (k0_off18_inb k) (k0_off19_inb k) (k0_off20_inb k)
    (k0_off13_eq k) (k0_off14_eq k) (k0_off15_eq k) (k0_off16_eq k) (k0_off17_eq k) (k0_off18_eq k) (k0_off19_eq k) (k0_off20_eq k)

/-- The region of loop 4 is the step on the second row buffer. -/
theorem t4_region (k : Fin k0_t4_loop.trips) (v : Fin 128 → F .f32) :
    k0_t4_body i arg2 harg2 arg3 harg3 arg4 harg4 arg5 harg5 arg6 harg6 arg7 harg7 arg8 harg8 arg9 harg9 arg10 harg10 arg11 harg11 arg12 arg13 arg14 r0 r1 r2 r3 v1 v9 v10 v11 v12 v13 v14 v15 v16 c0 k (tup v) = rowStep arg9 k.val (row_inb k.val k.isLt) (tup v) := by
  exact stepAt_eq arg9 k.val (row_inb k.val k.isLt) (tup v) (k0_off22_inb k) (k0_off23_inb k) (k0_off24_inb k) (k0_off25_inb k) (k0_off26_inb k) (k0_off27_inb k) (k0_off28_inb k) (k0_off29_inb k)
    (k0_off22_eq k) (k0_off23_eq k) (k0_off24_eq k) (k0_off25_eq k) (k0_off26_eq k) (k0_off27_eq k) (k0_off28_eq k) (k0_off29_eq k)

/-- The region of loop 5 is the step on the first row buffer. -/
theorem t5_region (k : Fin k0_t5_loop.trips) (v : Fin 128 → F .f32) :
    k0_t5_body i arg2 harg2 arg3 harg3 arg4 harg4 arg5 harg5 arg6 harg6 arg7 harg7 arg8 harg8 arg9 harg9 arg10 harg10 arg11 harg11 arg12 arg13 arg14 r0 r1 r2 r3 v1 v9 v10 v11 v12 v13 v14 v15 v16 c0 k (tup v) = rowStep arg8 k.val (row_inb k.val k.isLt) (tup v) := by
  exact stepAt_eq arg8 k.val (row_inb k.val k.isLt) (tup v) (k0_off30_inb k) (k0_off31_inb k) (k0_off32_inb k) (k0_off33_inb k) (k0_off34_inb k) (k0_off35_inb k) (k0_off36_inb k) (k0_off37_inb k)
    (k0_off30_eq k) (k0_off31_eq k) (k0_off32_eq k) (k0_off33_eq k) (k0_off34_eq k) (k0_off35_eq k) (k0_off36_eq k) (k0_off37_eq k)

/-- The region of loop 6 is the step on the second row buffer. -/
theorem t6_region (k : Fin k0_t6_loop.trips) (v : Fin 128 → F .f32) :
    k0_t6_body i arg2 harg2 arg3 harg3 arg4 harg4 arg5 harg5 arg6 harg6 arg7 harg7 arg8 harg8 arg9 harg9 arg10 harg10 arg11 harg11 arg12 arg13 arg14 r0 r1 r2 r3 v1 v9 v10 v11 v12 v13 v14 v15 v16 c0 k (tup v) = rowStep arg9 k.val (row_inb k.val k.isLt) (tup v) := by
  exact stepAt_eq arg9 k.val (row_inb k.val k.isLt) (tup v) (k0_off38_inb k) (k0_off39_inb k) (k0_off40_inb k) (k0_off41_inb k) (k0_off42_inb k) (k0_off43_inb k) (k0_off44_inb k) (k0_off45_inb k)
    (k0_off38_eq k) (k0_off39_eq k) (k0_off40_eq k) (k0_off41_eq k) (k0_off42_eq k) (k0_off43_eq k) (k0_off44_eq k) (k0_off45_eq k)

end Regions

/-- The two gathers in flight before trip `n` of the loop over chunks: chunk `2 n` into the first row buffer, chunk
    `2 n + 1` into the second. -/
def Ahead (d : Dev nD) (L : grid0.Coords) (I : S204800.Idx → BitVec 32) (b : ℕ) (Tb : Buf (Elt F) (tLoc d)) (q0 q1 : PosShare TreeShare) (n : ℕ) : sProp 𝕄 :=
  iprop(Going d L I b Tb s2 cc0_scratch6.sem q0 fullShare.left (256 * n)
    ∗ Going d L I b Tb s3 cc0_scratch7.sem q1 fullShare.right (256 * n + 128))

/-- The loop over chunks before trip `n`: the total of `256 n` rows, the two gathers ahead, what is owed. -/
def Chunks (d : Dev nD) (L : grid0.Coords) (I : S204800.Idx → BitVec 32) (b : ℕ) (Tb : Buf (Elt F) (tLoc d)) (q0 q1 : PosShare TreeShare)
    (O : CellTallies nD τ sig (HIx 1)) (W : Waits sig (HIx 1)) (n : ℕ) (a : Acc F) : sProp 𝕄 :=
  iprop(⌜a = tup (sumTo (tokRows I Tb b) (256 * n))⌝ ∗ Ahead d L I b Tb q0 q1 n ∗ Owed (V d (cV L) (jV L)) O W
    ∗ Transfers.MayWaits (V d (cV L) (jV L)) (default : HIx 1) O)

theorem set_s2 : (s2).view.set = Finset.univ := View.set_whole _
theorem set_s3 : (s3).view.set = Finset.univ := View.set_whole _
theorem set_s4 : (s4).view.set = Finset.univ := View.set_whole _

theorem credit_s2 : ∀ h : S100000x128.Gathers 0 S128x128, ∑ j, ((s2).slice (S128x128.rowRect h.axis' j) (S128x128.stride_rowRect h.axis' j)).view.dmaCredit
      = (s2).view.dmaCredit := by decide +kernel
theorem credit_s3 : ∀ h : S100000x128.Gathers 0 S128x128, ∑ j, ((s3).slice (S128x128.rowRect h.axis' j) (S128x128.stride_rowRect h.axis' j)).view.dmaCredit
      = (s3).view.dmaCredit := by decide +kernel
theorem credit_s4 : ∀ h : S100000x128.Gathers 0 S128x128, ∑ j, ((s4).slice (S128x128.rowRect h.axis' j) (S128x128.stride_rowRect h.axis' j)).view.dmaCredit
      = (s4).view.dmaCredit := by decide +kernel

theorem wp_chunks (d : Dev nD) (L : grid0.Coords) (I : S204800.Idx → BitVec 32) (hI : ∀ n, (tok I n).toNat < 100000) (b : ℕ) (Tb : Buf (Elt F) (tLoc d))
    (q0 q1 : PosShare TreeShare) (O : CellTallies nD τ sig (HIx 1)) (W : Waits sig (HIx 1))
    (v1 : BitVec 32) (v9 v10 v11 v12 v13 v14 v15 v16 : FVec F S16 .f32) (c0 : BitVec 32) (k : Fin k0_t2_loop.trips) (a : Acc F) :
    Chunks d L I b Tb q0 q1 O W k.val a
      ⊢ wp frame (wpE (defs₀ (F := F)) 𝒱₀ (V d (cV L) (jV L)) none) Set.univ
          (k0_t2_body L iV (Memref.isWhole_whole _) tV (Memref.isWhole_whole _) eV (Memref.isWhole_whole _) pV (Memref.isWhole_whole _)
            s0 (Memref.isWhole_whole _) s1 (Memref.isWhole_whole _) s2 (Memref.isWhole_whole _) s3 (Memref.isWhole_whole _)
            s4 (Memref.isWhole_whole _) s5 (Memref.isWhole_whole _) cc0_scratch6 cc0_scratch7 cc0_scratch8 cc0_scoped0 cc0_scoped1 cc0_scoped2 cc0_scoped3
            v1 v9 v10 v11 v12 v13 v14 v15 v16 c0 k a)
          (Chunks d L I b Tb q0 q1 O W (k.val + 1)) := by
  unfold Chunks Ahead
  iintro ⟨%ha, ⟨H0, H1⟩, HO, #Hmw⟩
  subst ha
  unfold k0_t2_body
  iapply (wp_finish d L I b Tb s2 cc0_scratch6.sem q0 fullShare.left (256 * k.val) O W) $$ [H0 HO]
  · isplitl [H0]; · iexact H0
    isplitl [HO]; · iexact HO
    iexact Hmw
  iintro %f0 %hf0 HB0 Ht0 Hl0 Hs0 HO
  iapply (wp_rows (tokRows I Tb b) (256 * k.val) d s2 f0 hf0 k0_t3_loop k0_t3_ok rfl _ (fun k v => t3_region ..)) $$ HB0
  iintro HB0
  iapply (wp_start d L I hI b Tb s2 cc0_scratch6.sem credit_s2 q0 fullShare.left (256 * (k.val + 1)) _ _
    ((congrFun (k0_off21_eq k 1) 0).trans (by show 256 * k.val + 128 * 1 + 128 = _; omega))) $$ [Ht0 HB0 Hl0 Hs0]
  · isplitl [Ht0]; · iexact Ht0
    isplitl [HB0]; · iexact HB0
    isplitl [Hl0]; · iexact Hl0
    iexact Hs0
  iintro H0
  iapply (wp_finish d L I b Tb s3 cc0_scratch7.sem q1 fullShare.right (256 * k.val + 128) O W) $$ [H1 HO]
  · isplitl [H1]; · iexact H1
    isplitl [HO]; · iexact HO
    iexact Hmw
  iintro %f1 %hf1 HB1 Ht1 Hl1 Hs1 HO
  iapply (wp_rows (tokRows I Tb b) (256 * k.val + 128) d s3 f1 hf1 k0_t4_loop k0_t4_ok rfl _ (fun k v => t4_region ..)) $$ HB1
  iintro HB1
  iapply (wp_start d L I hI b Tb s3 cc0_scratch7.sem credit_s3 q1 fullShare.right (256 * (k.val + 1) + 128) _ _
    ((congrFun (k0_off21_eq k 2) 0).trans (by show 256 * k.val + 128 * 2 + 128 = _; omega))) $$ [Ht1 HB1 Hl1 Hs1]
  · isplitl [Ht1]; · iexact Ht1
    isplitl [HB1]; · iexact HB1
    isplitl [Hl1]; · iexact Hl1
    iexact Hs1
  iintro H1
  sl_step
  isplitr; · ipureintro; rfl
  isplitl [H0 H1]
  · isplitl [H0]; · iexact H0
    iexact H1
  isplitl [HO]; · iexact HO
  iexact Hmw

end Loops

end Cert.Proof.KernelIdeal

end
-- ==== Proof.IdealTask.lean ====
/-
  The two parts of a tile's task: the fetches and the first gathers; the totals and the first stores.
-/
module

public import proofs.«01_k».proof.Proof.IdealLoops
public import Idealize.ShloMosaic.Lib.Pipeline.Value

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "eV" => (Memref.whole Cert.KernelIdeal.main_v0_0_scv : Memref Cert.KernelIdeal.sig Kind.scVector Space.hbm Cert.KernelIdeal.S4096x128 EltTy.f32)
local notation "pV" => (Memref.whole Cert.KernelIdeal.main_v0_1_scv : Memref Cert.KernelIdeal.sig Kind.scVector Space.hbm Cert.KernelIdeal.S32x128 EltTy.f32)
local notation "s0" => (Memref.whole Cert.KernelIdeal.cc0_scratch0 : Memref Cert.KernelIdeal.sig Kind.scVector Space.vmem Cert.KernelIdeal.S6400 EltTy.i32)
local notation "s1" => (Memref.whole Cert.KernelIdeal.cc0_scratch1 : Memref Cert.KernelIdeal.sig Kind.scVector Space.vmem Cert.KernelIdeal.S128 EltTy.i32)
local notation "s2" => (Memref.whole Cert.KernelIdeal.cc0_scratch2 : Memref Cert.KernelIdeal.sig Kind.scVector Space.vmem Cert.KernelIdeal.S128x128 EltTy.f32)
local notation "s3" => (Memref.whole Cert.KernelIdeal.cc0_scratch3 : Memref Cert.KernelIdeal.sig Kind.scVector Space.vmem Cert.KernelIdeal.S128x128 EltTy.f32)
local notation "s4" => (Memref.whole Cert.KernelIdeal.cc0_scratch4 : Memref Cert.KernelIdeal.sig Kind.scVector Space.vmem Cert.KernelIdeal.S128x128 EltTy.f32)
local notation "s5" => (Memref.whole Cert.KernelIdeal.cc0_scratch5 : Memref Cert.KernelIdeal.sig Kind.scVector Space.vmem Cert.KernelIdeal.S128 EltTy.f32)

variable [FloatOps F] [Named F]

section Task

variable (d : Dev nD) (L : grid0.Coords)

/-- The tile's number, 0 … 31. -/
def wid (L : grid0.Coords) : ℕ := 2 * (L 1).val + (L 0).val

theorem wid_lt : wid L < 32 := by
  have h0 : (L 0).val < 2 := (L 0).isLt
  have h1 : (L 1).val < 16 := (L 1).isLt
  unfold wid; omega

abbrev iLoc (d : Dev nD) : Loc nD τ sig := (SparseCore.T d).loc main_arg0
abbrev eLoc (d : Dev nD) : Loc nD τ sig := (SparseCore.T d).loc main_v0_0
abbrev pLoc (d : Dev nD) : Loc nD τ sig := (SparseCore.T d).loc main_v0_1

/-- The tile's bag words: words `b …` of the tokens. -/
def bagOf (I : S204800.Idx → BitVec 32) (b : ℕ) : S128.Idx → BitVec 32 := fun x => tok I (b + (x 0).val)

theorem set_s1 : (s1).view.set = Finset.univ := View.set_whole _

/-- What the first fetch brings: the tile's 6400 token words. -/
theorem fetch0_eq (I : S204800.Idx → BitVec 32) (x : S6400.Idx) :
    ((iV).slice (Rect.unit (s := S204800) (k0_off1 L) S6400.size (k0_off1_inb L)) (fun _ => rfl)).view.read (Elt F) I x = lstOf I (6400 * wid L) x := by
  have hx : (x 0).val < 6400 := (x 0).isLt
  have hw := wid_lt L
  refine congrArg I ?_
  funext a
  match a with
  | 0 =>
    refine Fin.ext ?_
    show k0_off1 L 0 + 1 * (x 0).val = (6400 * wid L + (x 0).val) % 204800
    rw [k0_off1_eq, Nat.mod_eq_of_lt (by omega)]
    show 12800 * (L 1).val + 6400 * (L 0).val + 1 * (x 0).val = _
    unfold wid; omega

/-- What the second fetch brings: the tile's 128 bag words. -/
theorem fetch1_eq (I : S204800.Idx → BitVec 32) (x : S128.Idx) :
    ((iV).slice (Rect.unit (s := S204800) (k0_off2 L) S128.size (k0_off2_inb L)) (fun _ => rfl)).view.read (Elt F) I x = bagOf I (128 * wid L) x := by
  have hx : (x 0).val < 128 := (x 0).isLt
  have hw := wid_lt L
  refine congrArg I ?_
  funext a
  match a with
  | 0 =>
    refine Fin.ext ?_
    show k0_off2 L 0 + 1 * (x 0).val = (128 * wid L + (x 0).val) % 204800
    rw [k0_off2_eq, Nat.mod_eq_of_lt (by omega)]
    show 256 * (L 1).val + 128 * (L 0).val + 1 * (x 0).val = _
    unfold wid; omega

set_option maxHeartbeats 4000000 in
theorem wp_part1 (I : Buf (Elt F) (iLoc d)) (hI : ∀ n, (tok I n).toNat < 100000) (Tb : Buf (Elt F) (tLoc d))
    (qi q0 q1 q2 : PosShare TreeShare) (O : CellTallies nD τ sig (HIx 1)) (W : Waits sig (HIx 1)) :
    iprop((iLoc d ↦{qi} I) ∗ (tLoc d ↦{q0} Tb) ∗ (tLoc d ↦{q1} Tb) ∗ (tLoc d ↦{q2} Tb)
        ∗ (∃ f, (s0).view.loc (V d (cV L) (jV L)) ↦{fullShare} f) ∗ (∃ f, (s1).view.loc (V d (cV L) (jV L)) ↦{fullShare} f)
        ∗ (∃ f, (s2).view.loc (V d (cV L) (jV L)) ↦{fullShare} f) ∗ (∃ f, (s3).view.loc (V d (cV L) (jV L)) ↦{fullShare} f)
        ∗ (∃ f, (s4).view.loc (V d (cV L) (jV L)) ↦{fullShare} f)
        ∗ semVal (V d (cV L) (jV L), SemLoc.dma cc0_scratch6.sem) 0 ∗ semVal (V d (cV L) (jV L), SemLoc.dma cc0_scratch7.sem) 0
        ∗ semVal (V d (cV L) (jV L), SemLoc.dma cc0_scratch8.sem) 0
        ∗ semVal (V d (cV L) (jV L), SemLoc.dma cc0_scoped0.sem) 0 ∗ semVal (V d (cV L) (jV L), SemLoc.dma cc0_scoped1.sem) 0
        ∗ Owed (V d (cV L) (jV L)) O W ∗ Transfers.MayWaits (V d (cV L) (jV L)) (default : HIx 1) O)
      ⊢ wp frame (wpE (defs₀ (F := F)) 𝒱₀ (V d (cV L) (jV L)) none) Set.univ
          (k0_part1 L iV (Memref.isWhole_whole _) tV (Memref.isWhole_whole _) eV (Memref.isWhole_whole _) pV (Memref.isWhole_whole _)
            s0 (Memref.isWhole_whole _) s1 (Memref.isWhole_whole _) s2 (Memref.isWhole_whole _) s3 (Memref.isWhole_whole _)
            s4 (Memref.isWhole_whole _) s5 (Memref.isWhole_whole _) cc0_scratch6 cc0_scratch7 cc0_scratch8 cc0_scoped0 cc0_scoped1 cc0_scoped2 cc0_scoped3)
          fun r => iprop(⌜∃ v1, r = ⟨v1, k0_pay7, k0_pay8, k0_pay9, k0_pay10, k0_pay11, k0_pay12, k0_pay13, k0_pay14, 0#32⟩⌝
            ∗ (iLoc d ↦{qi} I) ∗ Ahead d L I (6400 * wid L) Tb q0 q1 0 ∗ (tLoc d ↦{q2} Tb)
            ∗ (∃ f, (s1).view.loc (V d (cV L) (jV L)) ↦{fullShare} f)
            ∗ (∃ f, ⌜(s4).view.read (Elt F) f = tileOf (tokRows I Tb (128 * wid L)) 0⌝ ∗ ((s4).view.loc (V d (cV L) (jV L)) ↦[(s4).view.set]{fullShare} f))
            ∗ semVal (V d (cV L) (jV L), SemLoc.dma cc0_scratch8.sem) 0
            ∗ semVal (V d (cV L) (jV L), SemLoc.dma cc0_scoped0.sem) 0 ∗ semVal (V d (cV L) (jV L), SemLoc.dma cc0_scoped1.sem) 0
            ∗ Owed (V d (cV L) (jV L)) O W) := by
  simp only [k0_part1_eq_skeleton]; unfold k0_part1_skel Owed
  iintro ⟨Hi, Ht0, Ht1, Ht2, ⟨%f0, H0⟩, ⟨%f1, H1⟩, ⟨%f2, H2⟩, ⟨%f3, H3⟩, ⟨%f4, H4⟩, Hs6, Hs7, Hs8, Hr0, Hr1, ⟨%W', %hW', HO⟩, #Hmw⟩
  ihave Hi' := (Entails.of_eq (show (iLoc d ↦{qi} I : sProp 𝕄) = (iV).view.loc (V d (cV L) (jV L)) ↦{qi} I from rfl)) $$ Hi
  ihave H0' := (Entails.of_eq (show ((s0).view.loc (V d (cV L) (jV L)) ↦{fullShare} f0 : sProp 𝕄) = (Memref.whole cc0_scratch0).view.loc (V d (cV L) (jV L)) ↦{fullShare} f0 from rfl)) $$ H0
  ihave H1' := (Entails.of_eq (show ((s1).view.loc (V d (cV L) (jV L)) ↦{fullShare} f1 : sProp 𝕄) = (Memref.whole cc0_scratch1).view.loc (V d (cV L) (jV L)) ↦{fullShare} f1 from rfl)) $$ H1
  sl_exec
  have hd0 : View.write (Elt F) (Memref.whole cc0_scratch0).view f0 (wp_part1.sl.dma0 d L I) Finset.univ = lstOf I (6400 * wid L) :=
    (View.write_whole_univ cc0_scratch0 f0 _).trans (funext fun x => fetch0_eq (F := F) L I x)
  have hd1 : View.write (Elt F) (Memref.whole cc0_scratch1).view f1 (wp_part1.sl.dma0_1 d L I) Finset.univ = bagOf I (128 * wid L) :=
    (View.write_whole_univ cc0_scratch1 f1 _).trans (funext fun x => fetch1_eq (F := F) L I x)
  rw [hd0, hd1]
  ihave Hl := (Entails.of_eq (BI.Entails.antisymm (pointsTo_share (PosShare.mem_left_op_right fullShare)).1 (pointsTo_share (PosShare.mem_left_op_right fullShare)).2)) $$ H0'
  icases Hl with ⟨Hl0, Hl1⟩
  ihave HB2 := (Entails.of_eq (show ((s2).view.loc (V d (cV L) (jV L)) ↦{fullShare} f2 : sProp 𝕄) = (s2).view.loc (V d (cV L) (jV L)) ↦[(s2).view.set]{fullShare} f2 by rw [set_s2])) $$ H2
  ihave HB3 := (Entails.of_eq (show ((s3).view.loc (V d (cV L) (jV L)) ↦{fullShare} f3 : sProp 𝕄) = (s3).view.loc (V d (cV L) (jV L)) ↦[(s3).view.set]{fullShare} f3 by rw [set_s3])) $$ H3
  ihave HB4 := (Entails.of_eq (show ((s4).view.loc (V d (cV L) (jV L)) ↦{fullShare} f4 : sProp 𝕄) = (s4).view.loc (V d (cV L) (jV L)) ↦[(s4).view.set]{fullShare} f4 by rw [set_s4])) $$ H4
  ihave HL1 := (Entails.of_eq (show ((s1).view.loc (V d (cV L) (jV L)) ↦{fullShare} (bagOf I (128 * wid L) : Buf (Elt F) ((s1).view.loc (V d (cV L) (jV L)))) : sProp 𝕄)
      = (s1).view.loc (V d (cV L) (jV L)) ↦[(s1).view.set]{fullShare} (bagOf I (128 * wid L) : Buf (Elt F) ((s1).view.loc (V d (cV L) (jV L)))) by rw [set_s1])) $$ H1'
  iapply (wp_start d L I hI (6400 * wid L) Tb s2 cc0_scratch6.sem credit_s2 q0 fullShare.left (256 * 0) _ _ rfl) $$ [Ht0 HB2 Hl0 Hs6]
  · isplitl [Ht0]; · iexact Ht0
    isplitl [HB2]; · iexact HB2
    isplitl [Hl0]; · iexact Hl0
    iexact Hs6
  iintro HG0
  iapply (wp_start d L I hI (6400 * wid L) Tb s3 cc0_scratch7.sem credit_s3 q1 fullShare.right (256 * 0 + 128) _ _ rfl) $$ [Ht1 HB3 Hl1 Hs7]
  · isplitl [Ht1]; · iexact Ht1
    isplitl [HB3]; · iexact HB3
    isplitl [Hl1]; · iexact Hl1
    iexact Hs7
  iintro HG1
  iapply (wp_gather (c := cV L) (s := jV L) d s4 (tokRows I Tb (128 * wid L)) 0 q2 Tb s1 fullShare (bagOf I (128 * wid L)) cc0_scratch8.sem credit_s4
    (fun x => hI _) (fun k j => by show rowAt Tb (tok I (128 * wid L + k.val)) j = rowAt Tb (tok I (128 * wid L + (0 + k.val))) j; rw [Nat.zero_add])) $$ [Ht2 HB4 HL1 Hs8]
  · isplitl [Ht2]; · iexact Ht2
    isplitl [HB4]; · iexact HB4
    isplitl [HL1]; · iexact HL1
    iexact Hs8
  iintro HG2
  iapply (wp_await (c := cV L) (s := jV L) d s4 cc0_scratch8.sem _ O W) $$ [HG2 HO]
  · isplitl [HG2]; · iexact HG2
    isplitl [HO]
    · unfold Owed
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW' p hp
    iexact Hmw
  unfold Brought
  iintro ⟨⟨HB4, Ht2, HL1⟩, Hs8, HO⟩
  sl_step
  isplitr; · ipureintro; exact ⟨_, rfl⟩
  isplitl [Hi']; · iexact Hi'
  isplitl [HG0 HG1]
  · unfold Ahead
    isplitl [HG0]; · iexact HG0
    iexact HG1
  isplitl [Ht2]; · iexact Ht2
  isplitl [HL1]
  · iexists _
    iapply (Entails.of_eq (show ((s1).view.loc (V d (cV L) (jV L)) ↦[(s1).view.set]{fullShare} (bagOf I (128 * wid L) : Buf (Elt F) ((s1).view.loc (V d (cV L) (jV L)))) : sProp 𝕄)
      = (s1).view.loc (V d (cV L) (jV L)) ↦{fullShare} (bagOf I (128 * wid L) : Buf (Elt F) ((s1).view.loc (V d (cV L) (jV L)))) by rw [set_s1]))
    iexact HL1
  isplitl [HB4]; · iexact HB4
  isplitl [Hs8]; · iexact Hs8
  isplitl [Hr0]; · iexact Hr0
  isplitl [Hr1]; · iexact Hr1
  unfold Owed
  iexact HO

/-! ## The totals written out -/

/-- What the emb rows hold at the end: row `b` is the table's row for token `b`. -/
def rowsOut (I : S204800.Idx → BitVec 32) (Tb : Buf (Elt F) (tLoc d)) : S4096x128.Idx → F .f32 :=
  fun x => rowAt Tb (tok I (x 0).val) (x 1)

/-- The difference that tile `w` writes: its tokens' rows summed, less its bags' rows summed. -/
def diffOf (I : S204800.Idx → BitVec 32) (Tb : Buf (Elt F) (tLoc d)) (w : ℕ) (c : Fin 128) : F .f32 :=
  FloatOps.subf (sumTo (tokRows I Tb (6400 * w)) 6400 c) (sumTo (tokRows I Tb (128 * w)) 128 c)

/-- What the partial rows hold at the end. -/
def partOut (I : S204800.Idx → BitVec 32) (Tb : Buf (Elt F) (tLoc d)) : S32x128.Idx → F .f32 :=
  fun x => diffOf d I Tb (x 0).val (x 1)

/-- The tile's 128 emb rows. -/
abbrev eRow (L : grid0.Coords) : Memref sig .scVector .hbm S128x128 .f32 :=
  (eV).slice (Rect.unit (s := S4096x128) (k0_off11 L) S128x128.size (k0_off11_inb L)) (fun _ => rfl)

/-- The tile's partial row. -/
abbrev pRow (L : grid0.Coords) : Memref sig .scVector .hbm S128 .f32 :=
  ((pV).slice (Rect.unit (s := S32x128) (k0_off46 L) S1x128.size (k0_off46_inb L)) (fun _ => rfl)).squeeze S128 squeezes_S1x128_S128

theorem write_eRow (I : S204800.Idx → BitVec 32) (Tb : Buf (Elt F) (tLoc d)) (e : (eRow L).view.ty.Contents (Elt F)) (p : S128x128.Idx → F .f32)
    (hp : p = tileOf (tokRows I Tb (128 * wid L)) 0) :
    ∀ x ∈ (eRow L).view.set, (eRow L).view.writes (Elt F) e [⟨Rect.whole S128x128, p⟩] x = rowsOut d I Tb x := by
  subst hp
  intro x hx
  obtain ⟨y, -, rfl⟩ := Finset.mem_map.mp hx
  have hw := View.read_writes_cons_emb (Val := Elt F) (eRow L).view e (Rect.whole S128x128) (tileOf (tokRows I Tb (128 * wid L)) 0) [] y
  rw [Rect.emb_whole_apply] at hw
  refine Eq.trans (hw : _) ?_
  have h0 : (((eRow L).view.emb y) 0).val = 128 * wid L + (0 + (y 0).val) := by
    show k0_off11 L 0 + 1 * (y 0).val = _
    rw [k0_off11_eq]
    show 256 * (L 1).val + 128 * (L 0).val + 1 * (y 0).val = _
    unfold wid; omega
  have h1 : ((eRow L).view.emb y) 1 = y 1 := Fin.ext (by
    show k0_off11 L 1 + 1 * (y 1).val = _
    rw [k0_off11_eq]
    show 0 + 1 * (y 1).val = _
    omega)
  show rowAt Tb (tok I (128 * wid L + (0 + (y 0).val))) (y 1) = rowAt Tb (tok I (((eRow L).view.emb y) 0).val) (((eRow L).view.emb y) 1)
  rw [h0, h1]

/-- Sixteen lanes of the difference of two totals. -/
theorem diff_lanes (g : Fin 8) (a b : Fin 128 → F .f32) :
    (subf (lanes g a) (lanes g b) : FVec F S16 .f32) = lanes g (fun c => FloatOps.subf (a c) (b c)) := rfl

/-- The row buffer with its first `n` lanes done. -/
def Put (v : Fin 128 → F .f32) (n : ℕ) : sProp 𝕄 :=
  iprop(∃ f : Buf (Elt F) ((s5).view.loc (V d (cV L) (jV L))),
    ⌜∀ c : Fin 128, c.val < n → (s5).view.read (Elt F) f (ix1 c) = v c⌝ ∗ ((s5).view.loc (V d (cV L) (jV L)) ↦{fullShare} f))

/-- Storing the next sixteen lanes. -/
theorem wp_put (v : Fin 128 → F .f32) (g : Fin 8) (n : ℕ) (hn : n = 16 * g.val) (p : FVec F S16 .f32) (hp : p = lanes g v)
    (h : ∀ a, (![n] : Fin 1 → ℕ) a + S16.size a ≤ S128.size a)
    {β : Type} {k : PUnit → Prog (TpuEff nD τ sig (Elt F) Λ₀ (.scVector (cV L) (jV L))) β} {Q : β → sProp 𝕄} :
    Put d L v n ⊢ iprop((Put d L v (n + 16) -∗ wp frame (wpE (defs₀ (F := F)) 𝒱₀ (V d (cV L) (jV L)) none) Set.univ (k ⟨⟩) Q)
      -∗ wp frame (wpE (defs₀ (F := F)) 𝒱₀ (V d (cV L) (jV L)) none) Set.univ
        (Prog.lift (.store s5 (Rect.unit (s := S128) ![n] S16.size h) p Finset.univ (View.stores_vmem_bits_univ h_S16 rfl) (.inl rfl)) >>= k) Q) := by
  subst hn hp
  unfold Put
  iintro ⟨%f, %hf, H⟩ HK
  sl_exec
  iapply HK
  iexists _; isplitr
  swap; · iexact H
  ipureintro
  intro c hc
  by_cases h16 : c.val < 16 * g.val
  · exact (View.read_writes_cons_miss_of_axis _ _ _ _ (ix1 c) 0 (16 * g.val) 16 rfl rfl rfl (.inl h16)).trans (hf c h16)
  · have hx : ∀ a, ((ix1 c : S128.Idx) a).val = (![16 * g.val] : Fin 1 → ℕ) a + 1 * ((ix1 (⟨c.val - 16 * g.val, by omega⟩ : Fin 16) : S16.Idx) a).val := by
      intro a
      match a with
      | 0 => show c.val = 16 * g.val + 1 * (c.val - 16 * g.val); omega
    refine (View.read_writes_cons_hit_of_coords (Val := Elt F) (s5).view f (Rect.unit (s := S128) ![16 * g.val] S16.size h) (lanes g v : FVec F S16 .f32) []
      (ix1 (⟨c.val - 16 * g.val, by omega⟩ : Fin 16) : S16.Idx) (ix1 c) hx).trans ?_
    refine congrArg v (Fin.ext ?_)
    show 16 * g.val + (c.val - 16 * g.val) = c.val
    omega

/-- Loading lanes of it changes nothing. -/
theorem wp_see (v : Fin 128 → F .f32) (n : ℕ) (o : ℕ) (h : ∀ a, (![o] : Fin 1 → ℕ) a + S16.size a ≤ S128.size a)
    {β : Type} {k : Vec F S16 .f32 → Prog (TpuEff nD τ sig (Elt F) Λ₀ (.scVector (cV L) (jV L))) β} {Q : β → sProp 𝕄} :
    Put d L v n ⊢ iprop((∀ x, Put d L v n -∗ wp frame (wpE (defs₀ (F := F)) 𝒱₀ (V d (cV L) (jV L)) none) Set.univ (k x) Q)
      -∗ wp frame (wpE (defs₀ (F := F)) 𝒱₀ (V d (cV L) (jV L)) none) Set.univ
        (Prog.lift (.load s5 (Rect.unit (s := S128) ![o] S16.size h).toLoadRect (View.loadsAt_vmem h_S16)) >>= k) Q) := by
  unfold Put
  iintro ⟨%f, %hf, H⟩ HK
  sl_exec
  iapply HK
  iexists _; isplitr
  swap; · iexact H
  ipureintro; exact hf

/-- The loop over chunks: from the first two gathers ahead to the total of 6144 rows and the last two ahead. -/
theorem wp_allChunks (I : S204800.Idx → BitVec 32) (hI : ∀ n, (tok I n).toNat < 100000) (b : ℕ) (Tb : Buf (Elt F) (tLoc d))
    (q0 q1 : PosShare TreeShare) (O : CellTallies nD τ sig (HIx 1)) (W : Waits sig (HIx 1))
    (v1 : BitVec 32) (v9 v10 v11 v12 v13 v14 v15 v16 : FVec F S16 .f32) (c0 : BitVec 32)
    {β : Type} {kk : Acc F → Prog (TpuEff nD τ sig (Elt F) Λ₀ (.scVector (cV L) (jV L))) β} {Q : β → sProp 𝕄} :
    iprop(Ahead d L I b Tb q0 q1 0 ∗ Owed (V d (cV L) (jV L)) O W ∗ Transfers.MayWaits (V d (cV L) (jV L)) (default : HIx 1) O)
      ⊢ iprop((iprop(Ahead d L I b Tb q0 q1 24 ∗ Owed (V d (cV L) (jV L)) O W)
          -∗ wp frame (wpE (defs₀ (F := F)) 𝒱₀ (V d (cV L) (jV L)) none) Set.univ (kk (tup (sumTo (tokRows I Tb b) 6144))) Q)
        -∗ wp frame (wpE (defs₀ (F := F)) 𝒱₀ (V d (cV L) (jV L)) none) Set.univ
          (Scf.Loop.for k0_t2_loop k0_t2_ok (tup (sumTo (tokRows I Tb b) 0))
            (k0_t2_body L iV (Memref.isWhole_whole _) tV (Memref.isWhole_whole _) eV (Memref.isWhole_whole _) pV (Memref.isWhole_whole _)
              s0 (Memref.isWhole_whole _) s1 (Memref.isWhole_whole _) s2 (Memref.isWhole_whole _) s3 (Memref.isWhole_whole _)
              s4 (Memref.isWhole_whole _) s5 (Memref.isWhole_whole _) cc0_scratch6 cc0_scratch7 cc0_scratch8 cc0_scoped0 cc0_scoped1 cc0_scoped2 cc0_scoped3
              v1 v9 v10 v11 v12 v13 v14 v15 v16 c0) >>= kk) Q) := by
  iintro ⟨HA, HO, #Hmw⟩ HK
  iapply (Scf.wp_for_bind frame (wpE (defs₀ (F := F)) 𝒱₀ (V d (cV L) (jV L)) none) Set.univ k0_t2_loop.lb k0_t2_loop.ub k0_t2_loop.st k0_t2_ok
    (tup (sumTo (tokRows I Tb b) 0)) _ (Chunks d L I b Tb q0 q1 O W)
    (fun k a => wp_chunks d L I hI b Tb q0 q1 O W v1 v9 v10 v11 v12 v13 v14 v15 v16 c0 k a)) $$ [HA HO]
  · unfold Chunks
    isplitr; · ipureintro; rfl
    isplitl [HA]; · iexact HA
    isplitl [HO]; · iexact HO
    iexact Hmw
  · unfold Chunks
    iintro %a ⟨%ha, HA, HO, -⟩
    have ha' : a = tup (sumTo (tokRows I Tb b) 6144) := ha
    subst ha'
    iapply HK
    isplitl [HA]; · iexact HA
    iexact HO

/-- The totals: the bag's rows summed and written out, the tokens' rows summed, the first two stores. -/
theorem wp_part2 (I : Buf (Elt F) (iLoc d)) (hI : ∀ n, (tok I n).toNat < 100000) (Tb : Buf (Elt F) (tLoc d))
    (q0 q1 : PosShare TreeShare) (O : CellTallies nD τ sig (HIx 1)) (W : Waits sig (HIx 1)) (e : Buf (Elt F) (eLoc d)) (v1 : BitVec 32) :
    iprop((eLoc d ↦[(eRow L).view.set]{fullShare} e) ∗ Ahead d L I (6400 * wid L) Tb q0 q1 0
        ∗ (∃ f, ⌜(s4).view.read (Elt F) f = tileOf (tokRows I Tb (128 * wid L)) 0⌝ ∗ ((s4).view.loc (V d (cV L) (jV L)) ↦[(s4).view.set]{fullShare} f))
        ∗ (∃ f, (s5).view.loc (V d (cV L) (jV L)) ↦{fullShare} f)
        ∗ semVal (V d (cV L) (jV L), SemLoc.dma cc0_scoped2.sem) 0
        ∗ Owed (V d (cV L) (jV L)) O W ∗ Transfers.MayWaits (V d (cV L) (jV L)) (default : HIx 1) O)
      ⊢ wp frame (wpE (defs₀ (F := F)) 𝒱₀ (V d (cV L) (jV L)) none) Set.univ
          (k0_part2 L iV (Memref.isWhole_whole _) tV (Memref.isWhole_whole _) eV (Memref.isWhole_whole _) pV (Memref.isWhole_whole _)
            s0 (Memref.isWhole_whole _) s1 (Memref.isWhole_whole _) s2 (Memref.isWhole_whole _) s3 (Memref.isWhole_whole _)
            s4 (Memref.isWhole_whole _) s5 (Memref.isWhole_whole _) cc0_scratch6 cc0_scratch7 cc0_scratch8 cc0_scoped0 cc0_scoped1 cc0_scoped2 cc0_scoped3
            v1 k0_pay7 k0_pay8 k0_pay9 k0_pay10 k0_pay11 k0_pay12 k0_pay13 k0_pay14 0#32)
          fun r => iprop(⌜∃ v40, r = ⟨lanes 3 (sumTo (tokRows I Tb (128 * wid L)) 128), lanes 4 (sumTo (tokRows I Tb (128 * wid L)) 128), lanes 5 (sumTo (tokRows I Tb (128 * wid L)) 128),
                lanes 6 (sumTo (tokRows I Tb (128 * wid L)) 128), lanes 7 (sumTo (tokRows I Tb (128 * wid L)) 128),
                lanes 3 (sumTo (tokRows I Tb (6400 * wid L)) 6400), lanes 4 (sumTo (tokRows I Tb (6400 * wid L)) 6400), lanes 5 (sumTo (tokRows I Tb (6400 * wid L)) 6400),
                lanes 6 (sumTo (tokRows I Tb (6400 * wid L)) 6400), lanes 7 (sumTo (tokRows I Tb (6400 * wid L)) 6400), lanes 2 (diffOf d I Tb (wid L)), v40⟩⌝
            ∗ (eLoc d ↦[(eRow L).view.set]{fullShare} (rowsOut d I Tb : Buf (Elt F) (eLoc d)))
            ∗ (tLoc d ↦{q0} Tb) ∗ (tLoc d ↦{q1} Tb)
            ∗ (∃ f, (s0).view.loc (V d (cV L) (jV L)) ↦{fullShare} f)
            ∗ (∃ f, (s2).view.loc (V d (cV L) (jV L)) ↦{fullShare} f) ∗ (∃ f, (s3).view.loc (V d (cV L) (jV L)) ↦{fullShare} f)
            ∗ (∃ f, (s4).view.loc (V d (cV L) (jV L)) ↦{fullShare} f) ∗ Put d L (diffOf d I Tb (wid L)) 32
            ∗ semVal (V d (cV L) (jV L), SemLoc.dma cc0_scratch6.sem) 0 ∗ semVal (V d (cV L) (jV L), SemLoc.dma cc0_scratch7.sem) 0
            ∗ semVal (V d (cV L) (jV L), SemLoc.dma cc0_scoped2.sem) 0
            ∗ Owed (V d (cV L) (jV L)) O W) := by
  rw [k0_part2_eq_skeleton]; unfold k0_part2_skel
  iintro ⟨He, HA, ⟨%f4, %hf4, HB4⟩, ⟨%f5, H5⟩, Hr2, HO, #Hmw⟩
  iapply (wp_rows (tokRows I Tb (128 * wid L)) 0 d s4 f4 hf4 k0_t1_loop k0_t1_ok rfl _ (fun k v => t1_region ..)) $$ HB4
  iintro HB4
  unfold Owed
  icases HO with ⟨%W', %hW', HO⟩
  ihave He' := (Entails.of_eq (show (eLoc d ↦[(eRow L).view.set]{fullShare} e : sProp 𝕄) = (eRow L).view.loc (V d (cV L) (jV L)) ↦[(eRow L).view.set]{fullShare} e from rfl)) $$ He
  ihave HB4' := (Entails.of_eq (show ((s4).view.loc (V d (cV L) (jV L)) ↦[(s4).view.set]{fullShare} f4 : sProp 𝕄) = (Memref.whole cc0_scratch4).view.loc (V d (cV L) (jV L)) ↦{fullShare} f4 by rw [set_s4])) $$ HB4
  sl_exec
  ihave HO := (show owes (V d (cV L) (jV L)) O _ ⊢ (Owed (V d (cV L) (jV L)) O W : sProp 𝕄) from by
    unfold Owed
    iintro HO
    iexists _; isplitr
    swap; · iexact HO
    ipureintro; intro p hp
    rcases Finset.mem_insert.mp hp with hp | hp; · exact .inr (hp ▸ rfl)
    exact hW' p hp) $$ HO
  iapply (wp_allChunks d L I hI (6400 * wid L) Tb q0 q1 O W v1 _ _ _ _ _ _ _ _ _) $$ [HA HO]
  · isplitl [HA]; · iexact HA
    isplitl [HO]; · iexact HO
    iexact Hmw
  unfold Ahead
  iintro ⟨⟨HG0, HG1⟩, HO⟩
  iapply (wp_finish d L I (6400 * wid L) Tb s2 cc0_scratch6.sem q0 fullShare.left 6144 O W) $$ [HG0 HO]
  · isplitl [HG0]; · iexact HG0
    isplitl [HO]; · iexact HO
    iexact Hmw
  iintro %f2 %hf2 HB2 Ht0 Hl0 Hs6 HO
  iapply (wp_rows (tokRows I Tb (6400 * wid L)) 6144 d s2 f2 hf2 k0_t5_loop k0_t5_ok rfl _ (fun k v => t5_region ..)) $$ HB2
  iintro HB2
  iapply (wp_finish d L I (6400 * wid L) Tb s3 cc0_scratch7.sem q1 fullShare.right 6272 O W) $$ [HG1 HO]
  · isplitl [HG1]; · iexact HG1
    isplitl [HO]; · iexact HO
    iexact Hmw
  iintro %f3 %hf3 HB3 Ht1 Hl1 Hs7 HO
  iapply (wp_rows (tokRows I Tb (6400 * wid L)) 6272 d s3 f3 hf3 k0_t6_loop k0_t6_ok rfl _ (fun k v => t6_region ..)) $$ HB3
  iintro HB3
  ihave HP := (show ((s5).view.loc (V d (cV L) (jV L)) ↦{fullShare} f5 : sProp 𝕄) ⊢ Put d L (diffOf d I Tb (wid L)) 0 from by
    unfold Put
    iintro H
    iexists f5; isplitr
    · ipureintro; intro c hc; exact absurd hc (Nat.not_lt_zero _)
    iexact H) $$ H5
  iapply (wp_see d L (diffOf d I Tb (wid L)) 0 0 inb_S128_S16_0) $$ HP
  iintro %x0 HP
  iapply (wp_put d L (diffOf d I Tb (wid L)) 0 0 rfl _ (shapeCast_self _ _) inb_S128_S16_0) $$ HP
  iintro HP
  iapply (wp_see d L (diffOf d I Tb (wid L)) 16 16 inb_S128_S16_16) $$ HP
  iintro %x1 HP
  iapply (wp_put d L (diffOf d I Tb (wid L)) 1 16 rfl _ (shapeCast_self _ _) inb_S128_S16_16) $$ HP
  iintro HP
  iapply (wp_see d L (diffOf d I Tb (wid L)) 32 32 inb_S128_S16_32) $$ HP
  iintro %x2 HP
  sl_step
  isplitr; · ipureintro; exact ⟨_, rfl⟩
  isplitl [He']
  · iapply (Entails.of_eq (pointsTo_congr (write_eRow d L I Tb _ _ hf4))); iexact He'
  isplitl [Ht0]; · iexact Ht0
  isplitl [Ht1]; · iexact Ht1
  isplitl [Hl0 Hl1]
  · iexists _
    iapply (pointsTo_share (PosShare.mem_left_op_right fullShare)).2
    isplitl [Hl0] <;> iassumption
  isplitl [HB2]
  · iexists f2
    iapply (Entails.of_eq (show ((s2).view.loc (V d (cV L) (jV L)) ↦[(s2).view.set]{fullShare} f2 : sProp 𝕄) = (s2).view.loc (V d (cV L) (jV L)) ↦{fullShare} f2 by rw [set_s2]))
    iexact HB2
  isplitl [HB3]
  · iexists f3
    iapply (Entails.of_eq (show ((s3).view.loc (V d (cV L) (jV L)) ↦[(s3).view.set]{fullShare} f3 : sProp 𝕄) = (s3).view.loc (V d (cV L) (jV L)) ↦{fullShare} f3 by rw [set_s3]))
    iexact HB3
  isplitl [HB4']; · iexists f4; iexact HB4'
  isplitl [HP]; · iexact HP
  isplitl [Hs6]; · iexact Hs6
  isplitl [Hs7]; · iexact Hs7
  isplitl [Hr2]; · iexact Hr2
  unfold Owed
  iexact HO

end Task

end Cert.Proof.KernelIdeal

end
-- ==== Proof.IdealBody.lean ====
/-
  A tile's whole task: from its shares of the tokens and of the table, its emb rows and its partial row, to the emb rows
  gathered and the partial row summed.
-/
module

public import proofs.«01_k».proof.Proof.IdealTask

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "eV" => (Memref.whole Cert.KernelIdeal.main_v0_0_scv : Memref Cert.KernelIdeal.sig Kind.scVector Space.hbm Cert.KernelIdeal.S4096x128 EltTy.f32)
local notation "pV" => (Memref.whole Cert.KernelIdeal.main_v0_1_scv : Memref Cert.KernelIdeal.sig Kind.scVector Space.hbm Cert.KernelIdeal.S32x128 EltTy.f32)
local notation "s0" => (Memref.whole Cert.KernelIdeal.cc0_scratch0 : Memref Cert.KernelIdeal.sig Kind.scVector Space.vmem Cert.KernelIdeal.S6400 EltTy.i32)
local notation "s1" => (Memref.whole Cert.KernelIdeal.cc0_scratch1 : Memref Cert.KernelIdeal.sig Kind.scVector Space.vmem Cert.KernelIdeal.S128 EltTy.i32)
local notation "s2" => (Memref.whole Cert.KernelIdeal.cc0_scratch2 : Memref Cert.KernelIdeal.sig Kind.scVector Space.vmem Cert.KernelIdeal.S128x128 EltTy.f32)
local notation "s3" => (Memref.whole Cert.KernelIdeal.cc0_scratch3 : Memref Cert.KernelIdeal.sig Kind.scVector Space.vmem Cert.KernelIdeal.S128x128 EltTy.f32)
local notation "s4" => (Memref.whole Cert.KernelIdeal.cc0_scratch4 : Memref Cert.KernelIdeal.sig Kind.scVector Space.vmem Cert.KernelIdeal.S128x128 EltTy.f32)
local notation "s5" => (Memref.whole Cert.KernelIdeal.cc0_scratch5 : Memref Cert.KernelIdeal.sig Kind.scVector Space.vmem Cert.KernelIdeal.S128 EltTy.f32)

variable [FloatOps F] [Named F]

section Task

variable (d : Dev nD) (L : grid0.Coords)

/-- A part of a program run to its postcondition, then the rest. -/
theorem step_bind {thr : Thread nD τ} {α β : Type} {p : Prog (TpuEff nD τ sig (Elt F) Λ₀ thr.2) α} {k : α → Prog (TpuEff nD τ sig (Elt F) Λ₀ thr.2) β}
    {R : sProp 𝕄} {Φ : α → sProp 𝕄} {Q : β → sProp 𝕄} (h : R ⊢ wp frame (wpE (defs₀ (F := F)) 𝒱₀ thr none) Set.univ p Φ) :
    R ⊢ iprop((∀ a, Φ a -∗ wp frame (wpE (defs₀ (F := F)) 𝒱₀ thr none) Set.univ (k a) Q)
      -∗ wp frame (wpE (defs₀ (F := F)) 𝒱₀ thr none) Set.univ (p >>= k) Q) := by
  rw [wp_bind]; exact h.trans (wp_wand frame _ _)

theorem write_pRow (I : S204800.Idx → BitVec 32) (Tb : Buf (Elt F) (tLoc d)) (e : (pRow L).view.ty.Contents (Elt F)) (p : S128.Idx → F .f32)
    (hp : ∀ c : Fin 128, p (ix1 c) = diffOf d I Tb (wid L) c) :
    ∀ x ∈ (pRow L).view.set, (pRow L).view.writes (Elt F) e [⟨Rect.whole S128, p⟩] x = partOut d I Tb x := by
  intro x hx
  obtain ⟨y, -, rfl⟩ := Finset.mem_map.mp hx
  have hw := View.read_writes_cons_emb (Val := Elt F) (pRow L).view e (Rect.whole S128) p [] y
  rw [Rect.emb_whole_apply] at hw
  refine Eq.trans (hw : _) ?_
  obtain ⟨k, rfl⟩ : ∃ k : Fin 128, y = ix1 k := ⟨y 0, eq_ix1 y⟩
  refine (hp k).trans ?_
  have hk : ∀ k : Fin 128, Shape.reshapeEquiv squeezes_S1x128_S128.numel_eq (ix1 k : S128.Idx) = (ix2 0 k : S1x128.Idx) := by decide +kernel
  have h0 : (((pRow L).view.emb (ix1 k : S128.Idx)) 0).val = wid L := by
    refine (congrArg (fun z : S1x128.Idx => k0_off46 L 0 + 1 * (z 0).val) (hk k)).trans ?_
    rw [k0_off46_eq]
    show 2 * (L 1).val + (L 0).val + 1 * 0 = _
    unfold wid; omega
  have h1 : ((pRow L).view.emb (ix1 k : S128.Idx)) 1 = k := Fin.ext (by
    refine (congrArg (fun z : S1x128.Idx => k0_off46 L 1 + 1 * (z 1).val) (hk k)).trans ?_
    rw [k0_off46_eq]
    show 0 + 1 * k.val = _
    omega)
  show _ = diffOf d I Tb (((pRow L).view.emb (ix1 k : S128.Idx)) 0).val (((pRow L).view.emb (ix1 k : S128.Idx)) 1)
  rw [h0, h1]

/-- The tile's task. -/
theorem wp_task (I : Buf (Elt F) (iLoc d)) (hI : ∀ n, (tok I n).toNat < 100000) (Tb : Buf (Elt F) (tLoc d))
    (qi q : PosShare TreeShare) (O : CellTallies nD τ sig (HIx 1)) (W : Waits sig (HIx 1)) (e : Buf (Elt F) (eLoc d)) (p : Buf (Elt F) (pLoc d)) :
    iprop(((iLoc d ↦{qi} I) ∗ (tLoc d ↦{q} Tb) ∗ (eLoc d ↦[(eRow L).view.set]{fullShare} e) ∗ (pLoc d ↦[(pRow L).view.set]{fullShare} p))
        ∗ ((∃ f, (s0).view.loc (V d (cV L) (jV L)) ↦{fullShare} f) ∗ (∃ f, (s1).view.loc (V d (cV L) (jV L)) ↦{fullShare} f)
          ∗ (∃ f, (s2).view.loc (V d (cV L) (jV L)) ↦{fullShare} f) ∗ (∃ f, (s3).view.loc (V d (cV L) (jV L)) ↦{fullShare} f)
          ∗ (∃ f, (s4).view.loc (V d (cV L) (jV L)) ↦{fullShare} f) ∗ (∃ f, (s5).view.loc (V d (cV L) (jV L)) ↦{fullShare} f))
        ∗ (semVal (V d (cV L) (jV L), SemLoc.dma cc0_scratch6.sem) 0 ∗ semVal (V d (cV L) (jV L), SemLoc.dma cc0_scratch7.sem) 0
          ∗ semVal (V d (cV L) (jV L), SemLoc.dma cc0_scratch8.sem) 0
          ∗ semVal (V d (cV L) (jV L), SemLoc.dma cc0_scoped0.sem) 0 ∗ semVal (V d (cV L) (jV L), SemLoc.dma cc0_scoped1.sem) 0
          ∗ semVal (V d (cV L) (jV L), SemLoc.dma cc0_scoped2.sem) 0 ∗ semVal (V d (cV L) (jV L), SemLoc.dma cc0_scoped3.sem) 0)
        ∗ Owed (V d (cV L) (jV L)) O W ∗ Transfers.MayWaits (V d (cV L) (jV L)) (default : HIx 1) O)
      ⊢ wp frame (wpE (defs₀ (F := F)) 𝒱₀ (V d (cV L) (jV L)) none) Set.univ
          (cc0_sc_kernel L iV (Memref.isWhole_whole _) tV (Memref.isWhole_whole _) eV (Memref.isWhole_whole _) pV (Memref.isWhole_whole _)
            s0 (Memref.isWhole_whole _) s1 (Memref.isWhole_whole _) s2 (Memref.isWhole_whole _) s3 (Memref.isWhole_whole _)
            s4 (Memref.isWhole_whole _) s5 (Memref.isWhole_whole _) cc0_scratch6 cc0_scratch7 cc0_scratch8 cc0_scoped0 cc0_scoped1 cc0_scoped2 cc0_scoped3)
          fun _ => iprop(((iLoc d ↦{qi} I) ∗ (tLoc d ↦{q} Tb) ∗ (eLoc d ↦[(eRow L).view.set]{fullShare} (rowsOut d I Tb : Buf (Elt F) (eLoc d)))
              ∗ (pLoc d ↦[(pRow L).view.set]{fullShare} (partOut d I Tb : Buf (Elt F) (pLoc d))))
            ∗ ((∃ f, (s0).view.loc (V d (cV L) (jV L)) ↦{fullShare} f) ∗ (∃ f, (s1).view.loc (V d (cV L) (jV L)) ↦{fullShare} f)
              ∗ (∃ f, (s2).view.loc (V d (cV L) (jV L)) ↦{fullShare} f) ∗ (∃ f, (s3).view.loc (V d (cV L) (jV L)) ↦{fullShare} f)
              ∗ (∃ f, (s4).view.loc (V d (cV L) (jV L)) ↦{fullShare} f) ∗ (∃ f, (s5).view.loc (V d (cV L) (jV L)) ↦{fullShare} f))
            ∗ (semVal (V d (cV L) (jV L), SemLoc.dma cc0_scratch6.sem) 0 ∗ semVal (V d (cV L) (jV L), SemLoc.dma cc0_scratch7.sem) 0
              ∗ semVal (V d (cV L) (jV L), SemLoc.dma cc0_scratch8.sem) 0
              ∗ semVal (V d (cV L) (jV L), SemLoc.dma cc0_scoped0.sem) 0 ∗ semVal (V d (cV L) (jV L), SemLoc.dma cc0_scoped1.sem) 0
              ∗ semVal (V d (cV L) (jV L), SemLoc.dma cc0_scoped2.sem) 0 ∗ semVal (V d (cV L) (jV L), SemLoc.dma cc0_scoped3.sem) 0)
            ∗ Owed (V d (cV L) (jV L)) O W) := by
  rw [cc0_sc_kernel_eq_skeleton]; unfold cc0_sc_kernel_skel
  iintro ⟨⟨Hi, Ht, He, Hp⟩, ⟨H0, H1, H2, H3, H4, H5⟩, ⟨Hs6, Hs7, Hs8, Hr0, Hr1, Hr2, Hr3⟩, HO, #Hmw⟩
  ihave Ht := (pointsTo_share (PosShare.mem_left_op_right q)).1 $$ Ht
  icases Ht with ⟨Ht0, Ht⟩
  ihave Ht := (pointsTo_share (PosShare.mem_left_op_right q.right)).1 $$ Ht
  icases Ht with ⟨Ht1, Ht2⟩
  iapply (step_bind (wp_part1 d L I hI Tb qi q.left q.right.left q.right.right O W)) $$ [Hi Ht0 Ht1 Ht2 H0 H1 H2 H3 H4 Hs6 Hs7 Hs8 Hr0 Hr1 HO]
  · isplitl [Hi]; · iexact Hi
    isplitl [Ht0]; · iexact Ht0
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [Hs6]; · iexact Hs6
    isplitl [Hs7]; · iexact Hs7
    isplitl [Hs8]; · iexact Hs8
    isplitl [Hr0]; · iexact Hr0
    isplitl [Hr1]; · iexact Hr1
    isplitl [HO]; · iexact HO
    iexact Hmw
  iintro %r ⟨%hr, Hi, HA, Ht2, H1, H4, Hs8, Hr0, Hr1, HO⟩
  obtain ⟨v1, rfl⟩ := hr
  iapply (step_bind (wp_part2 d L I hI Tb q.left q.right.left O W e v1)) $$ [He HA H4 H5 Hr2 HO]
  · isplitl [He]; · iexact He
    isplitl [HA]; · iexact HA
    isplitl [H4]; · iexact H4
    isplitl [H5]; · iexact H5
    isplitl [Hr2]; · iexact Hr2
    isplitl [HO]; · iexact HO
    iexact Hmw
  iintro %r ⟨%hr, He, Ht0, Ht1, H0, H2, H3, H4, HP, Hs6, Hs7, Hr2, HO⟩
  obtain ⟨v40, rfl⟩ := hr
  iapply (wp_put d L (diffOf d I Tb (wid L)) 2 32 rfl _ (shapeCast_self _ _) inb_S128_S16_32) $$ HP
  iintro HP
  iapply (wp_see d L (diffOf d I Tb (wid L)) 48 48 inb_S128_S16_48) $$ HP
  iintro %x3 HP
  iapply (wp_put d L (diffOf d I Tb (wid L)) 3 48 rfl _ (shapeCast_self _ _) inb_S128_S16_48) $$ HP
  iintro HP
  iapply (wp_see d L (diffOf d I Tb (wid L)) 64 64 inb_S128_S16_64) $$ HP
  iintro %x4 HP
  iapply (wp_put d L (diffOf d I Tb (wid L)) 4 64 rfl _ (shapeCast_self _ _) inb_S128_S16_64) $$ HP
  iintro HP
  iapply (wp_see d L (diffOf d I Tb (wid L)) 80 80 inb_S128_S16_80) $$ HP
  iintro %x5 HP
  iapply (wp_put d L (diffOf d I Tb (wid L)) 5 80 rfl _ (shapeCast_self _ _) inb_S128_S16_80) $$ HP
  iintro HP
  iapply (wp_see d L (diffOf d I Tb (wid L)) 96 96 inb_S128_S16_96) $$ HP
  iintro %x6 HP
  iapply (wp_put d L (diffOf d I Tb (wid L)) 6 96 rfl _ (shapeCast_self _ _) inb_S128_S16_96) $$ HP
  iintro HP
  iapply (wp_see d L (diffOf d I Tb (wid L)) 112 112 inb_S128_S16_112) $$ HP
  iintro %x7 HP
  iapply (wp_put d L (diffOf d I Tb (wid L)) 7 112 rfl _ (shapeCast_self _ _) inb_S128_S16_112) $$ HP
  unfold Put Owed
  iintro ⟨%f5, %hf5, H5⟩
  icases HO with ⟨%W', %hW', HO⟩
  ihave Hp' := (Entails.of_eq (show (pLoc d ↦[(pRow L).view.set]{fullShare} p : sProp 𝕄) = (pRow L).view.loc (V d (cV L) (jV L)) ↦[(pRow L).view.set]{fullShare} p from rfl)) $$ Hp
  sl_exec
  sl_step
  isplitl [Hi Ht0 Ht1 Ht2 He Hp']
  · isplitl [Hi]; · iexact Hi
    isplitl [Ht0 Ht1 Ht2]
    · iapply (pointsTo_share (PosShare.mem_left_op_right q)).2
      isplitl [Ht0]; · iexact Ht0
      iapply (pointsTo_share (PosShare.mem_left_op_right q.right)).2
      isplitl [Ht1] <;> iassumption
    isplitl [He]; · iexact He
    iapply (Entails.of_eq (pointsTo_congr (write_pRow d L I Tb _ _ (fun c => hf5 c c.isLt)))); iexact Hp'
  isplitl [H0 H1 H2 H3 H4 H5]
  · isplitl [H0]; · iexact H0
    isplitl [H1]; · iexact H1
    isplitl [H2]; · iexact H2
    isplitl [H3]; · iexact H3
    isplitl [H4]; · iexact H4
    iexists f5; iexact H5
  isplitl [Hs6 Hs7 Hs8 Hr0 Hr1 Hr2 Hr3]
  · isplitl [Hs6]; · iexact Hs6
    isplitl [Hs7]; · iexact Hs7
    isplitl [Hs8]; · iexact Hs8
    isplitl [Hr0]; · iexact Hr0
    isplitl [Hr1]; · iexact Hr1
    isplitl [Hr2]; · iexact Hr2
    iexact Hr3
  iexists _; isplitr
  swap; · iexact HO
  ipureintro; intro p hp
  rcases Finset.mem_insert.mp hp with hp | hp; · exact .inr (hp ▸ rfl)
  exact hW' p hp

end Task

end Cert.Proof.KernelIdeal

end
-- ==== Proof.IdealLaunch.lean ====
/-
  The SparseCore call's launch: the thirty-two tiles' parts of the four arrays, their tasks as the launch asks for them,
  and the ghost state the launch starts from.
-/
module

public import Idealize.ShloMosaic.Lib.ShareLeaves
public import Idealize.ShloMosaic.Lib.SparseCore.Quiescent
public import Idealize.ShloMosaic.Lib.Pipeline.Kit
public import proofs.«01_k».proof.Proof.Gen.KernelIdeal.Launch
public import proofs.«01_k».proof.Proof.IdealBody

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "eV" => (Memref.whole Cert.KernelIdeal.main_v0_0_scv : Memref Cert.KernelIdeal.sig Kind.scVector Space.hbm Cert.KernelIdeal.S4096x128 EltTy.f32)
local notation "pV" => (Memref.whole Cert.KernelIdeal.main_v0_1_scv : Memref Cert.KernelIdeal.sig Kind.scVector Space.hbm Cert.KernelIdeal.S32x128 EltTy.f32)
local notation "s0" => (Memref.whole Cert.KernelIdeal.cc0_scratch0 : Memref Cert.KernelIdeal.sig Kind.scVector Space.vmem Cert.KernelIdeal.S6400 EltTy.i32)
local notation "s1" => (Memref.whole Cert.KernelIdeal.cc0_scratch1 : Memref Cert.KernelIdeal.sig Kind.scVector Space.vmem Cert.KernelIdeal.S128 EltTy.i32)
local notation "s2" => (Memref.whole Cert.KernelIdeal.cc0_scratch2 : Memref Cert.KernelIdeal.sig Kind.scVector Space.vmem Cert.KernelIdeal.S128x128 EltTy.f32)
local notation "s3" => (Memref.whole Cert.KernelIdeal.cc0_scratch3 : Memref Cert.KernelIdeal.sig Kind.scVector Space.vmem Cert.KernelIdeal.S128x128 EltTy.f32)
local notation "s4" => (Memref.whole Cert.KernelIdeal.cc0_scratch4 : Memref Cert.KernelIdeal.sig Kind.scVector Space.vmem Cert.KernelIdeal.S128x128 EltTy.f32)
local notation "s5" => (Memref.whole Cert.KernelIdeal.cc0_scratch5 : Memref Cert.KernelIdeal.sig Kind.scVector Space.vmem Cert.KernelIdeal.S128 EltTy.f32)

variable [FloatOps F] [Named F]

/-! ## The program as the launch sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem nSub_zero : (K (F := F)).nSub 0 = 16 := rfl
theorem nCore_zero : (K (F := F)).nCore 0 = 2 := rfl

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, and the TensorCore call's, in the certificate's algebra. -/
abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER (F := F)).LandsIn (upEmb : UEmb _ 𝕄) := by unfold ER; infer_instance

/-! ## What each tile takes and brings back -/

/-- The tile of SparseCore `c` and subcore `i`. -/
def crd (c : Fin (grid0.bound 0)) (i : Fin (grid0.bound 1)) : grid0.Coords :=
  fun | 0 => c | 1 => i | ⟨_ + 2, h⟩ => absurd h (Nat.not_lt.2 (Nat.le_add_left _ _))

/-- The thirty-two tiles by their numbers. -/
def tileNo : Fin 2 × Fin 16 ≃ Fin (2 ^ 5) := (Equiv.prodComm _ _).trans (finProdFinEquiv.trans (finCongr (by decide)))
theorem tileNo_val (c : Fin 2) (i : Fin 16) : (tileNo (c, i)).val = wid (crd c i) := by
  show c.val + 2 * i.val = 2 * i.val + c.val
  omega

/-- What a tile holds: its share of the tokens and of the table, its emb rows and its partial row. -/
def held (d : Dev nD) (I : Buf (Elt F) (iLoc d)) (Tb : Buf (Elt F) (tLoc d)) (e : Buf (Elt F) (eLoc d)) (p : Buf (Elt F) (pLoc d))
    (c : Fin 2) (i : Fin 16) : sProp 𝕄 :=
  iprop((iLoc d ↦{ShareLeaves.leaf 5 fullShare (tileNo (c, i))} I) ∗ (tLoc d ↦{ShareLeaves.leaf 5 fullShare (tileNo (c, i))} Tb)
    ∗ (eLoc d ↦[(eRow (crd c i)).view.set]{fullShare} e) ∗ (pLoc d ↦[(pRow (crd c i)).view.set]{fullShare} p))

instance held_storable (d : Dev nD) (I : Buf (Elt F) (iLoc d)) (Tb : Buf (Elt F) (tLoc d)) (e : Buf (Elt F) (eLoc d)) (p : Buf (Elt F) (pLoc d))
    (c : Fin 2) (i : Fin 16) : BI.Storable (upEmb : UEmb _ 𝕄) (held d I Tb e p c i) := by
  unfold held; infer_instance

variable (m : (ℓ : Loc nD τ sig) → Buf (Elt F) ℓ) (ρ : Dev nD → PrngReg)

/-- What a tile is handed, from the launch memory; -/
abbrev goOf (d : Dev nD) (c : Fin 2) (i : Fin 16) : sProp 𝕄 := held d (m (iLoc d)) (m (tLoc d)) (m (eLoc d)) (m (pLoc d)) c i
/-- and what it brings back. -/
abbrev tdOf (d : Dev nD) (c : Fin 2) (i : Fin 16) : sProp 𝕄 :=
  held d (m (iLoc d)) (m (tLoc d)) (rowsOut d (m (iLoc d)) (m (tLoc d)) : Buf (Elt F) (eLoc d)) (partOut d (m (iLoc d)) (m (tLoc d)) : Buf (Elt F) (pLoc d)) c i

/-- The one call: each SparseCore takes its sixteen tiles' parts, and brings them back. -/
def P : (K (F := F)).Pay (nD := nD) (Val := Elt F) (Name := ℕ) (U := UU) where
  st := fun q d c => match q with
    | 0 => bigSep Finset.univ fun i : Fin ((K (F := F)).nSub 0) => goOf m d (Fin.cast nCore_zero c) (Fin.cast nSub_zero i)
  dn := fun q d c => match q with
    | 0 => bigSep Finset.univ fun i : Fin ((K (F := F)).nSub 0) => tdOf m d (Fin.cast nCore_zero c) (Fin.cast nSub_zero i)
  go := fun q d c i => match q with | 0 => goOf m d (Fin.cast nCore_zero c) (Fin.cast nSub_zero i)
  td := fun q d c i => match q with | 0 => tdOf m d (Fin.cast nCore_zero c) (Fin.cast nSub_zero i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => goOf m d (Fin.cast nCore_zero c) (Fin.cast nSub_zero i)))
  dn q d c := match q with
    | 0 => (inferInstance : BI.Storable (upEmb : UEmb _ 𝕄)
      (bigSep Finset.univ fun i : Fin ((K (F := F)).nSub 0) => tdOf m d (Fin.cast nCore_zero c) (Fin.cast nSub_zero i)))
  go q d c i := match q with
    | 0 => (inferInstance : BI.Storable (upEmb : UEmb _ 𝕄) (goOf m d (Fin.cast nCore_zero c) (Fin.cast nSub_zero i)))
  td q d c i := match q with
    | 0 => (inferInstance : BI.Storable (upEmb : UEmb _ 𝕄) (tdOf m d (Fin.cast nCore_zero c) (Fin.cast nSub_zero i)))

theorem vecSplit : (K (F := F)).VecSplit' (P m) 0 := by
  intro d c
  show (bigSep Finset.univ fun i : Fin ((K (F := F)).nSub 0) => goOf m d (Fin.cast nCore_zero c) (Fin.cast nSub_zero i))
    ⊢ |={Set.univ}=> iprop((bigSep Finset.univ fun i : Fin ((K (F := F)).nSub 0) => goOf m d (Fin.cast nCore_zero c) (Fin.cast nSub_zero i))
      ∗ ((bigSep Finset.univ fun i : Fin ((K (F := F)).nSub 0) => tdOf m d (Fin.cast nCore_zero c) (Fin.cast nSub_zero i))
        -∗ (bigSep Finset.univ fun i : Fin ((K (F := F)).nSub 0) => tdOf m d (Fin.cast nCore_zero c) (Fin.cast nSub_zero i))))
  iintro H; imodintro
  isplitl [H]; · iexact H
  iintro H; iexact H

/-! ## Pulling a list of cells, or of buffers, out of a whole -/

theorem peel {X : Type} [DecidableEq X] (Φ : X → sProp 𝕄) : ∀ (l : List X) (s : Finset X), l.Nodup → (∀ x ∈ l, x ∈ s) →
    bigSep s Φ = l.foldr (fun x R => iprop(Φ x ∗ R)) (bigSep (l.foldl Finset.erase s) Φ)
  | [], _, _, _ => rfl
  | x :: l, s, hn, hs => by
    have hx := List.nodup_cons.mp hn
    rw [SparseCore.bigSep_erase' (hs x (List.mem_cons_self ..)), peel Φ l (s.erase x) hx.2 fun y hy =>
      Finset.mem_erase.mpr ⟨fun h => hx.1 (h ▸ hy), hs y (List.mem_cons_of_mem _ hy)⟩]
    rfl

section Tile

variable (d : Dev nD) (L : grid0.Coords)

/-- The DMA semaphores of the task. -/
def semsL : List (DmaSem sig) := [cc0_scratch6.sem, cc0_scratch7.sem, cc0_scratch8.sem, cc0_scoped0.sem, cc0_scoped1.sem, cc0_scoped2.sem, cc0_scoped3.sem]
/-- The scratch buffers of the task. -/
def refsL : List (Ref sig .scVector) := [cc0_scratch0, cc0_scratch1, cc0_scratch2, cc0_scratch3, cc0_scratch4, cc0_scratch5]

theorem refsL_nodup : refsL.Nodup := by decide

/-- The same on the tile. -/
def cellsL : List (GSem nD τ sig) := semsL.map fun s => (V d (cV L) (jV L), SemLoc.dma s)
def bufsL : List (DevRef τ sig) := refsL.map fun b => (Proc.scVector (cV L) (jV L)).devRef b

theorem ownSems0_V : (ownSems0 (V d (cV L) (jV L)) : sProp 𝕄)
    = (cellsL d L).foldr (fun x R => iprop(semVal x 0 ∗ R)) (bigSep ((cellsL d L).foldl Finset.erase (ownCells (V d (cV L) (jV L)))) fun g => semVal g 0) := by
  unfold SparseCore.Cfg.ownSems0
  refine peel _ _ _ ?_ ?_
  · exact List.Nodup.map (fun a b h => by simpa using h) (by decide)
  · intro x hx
    obtain ⟨s, hs, rfl⟩ := List.mem_map.mp hx
    refine mem_ownCells.mpr ⟨rfl, ?_⟩
    show (SemLoc.dma s : SemLoc sig).isScoped .scVector = true
    clear hx
    revert s
    decide

theorem ownBufs_V : (ownBufs (V d (cV L) (jV L)) : sProp 𝕄)
    = (bufsL L).foldr (fun b R => iprop((∃ f, ((d, b) : Loc nD τ sig) ↦{fullShare} f) ∗ R))
        (bigSep ((bufsL L).foldl Finset.erase (ownRefs (τ := τ) (.scVector (cV L) (jV L)))) fun b => iprop(∃ f, ((d, b) : Loc nD τ sig) ↦{fullShare} f)) := by
  unfold SparseCore.Cfg.ownBufs
  refine peel _ _ _ ?_ ?_
  · exact List.Nodup.map (Proc.devRef_injective _) refsL_nodup
  · intro x hx
    obtain ⟨b, hb, rfl⟩ := List.mem_map.mp hx
    refine SparseCore.Cfg.mem_ownRefs_of_owner (p := Proc.scVector (cV L) (jV L)) ?_
    simp only [refsL, List.mem_cons, List.mem_nil_iff, _root_.or_false] at hb
    rcases hb with rfl | rfl | rfl | rfl | rfl | rfl <;> rfl

/-- What the proof asks of the launch memory: every token names a row of the table. -/
def PreOK : Prop := ∀ (d : Dev nD) (n : ℕ), (tok (m (iLoc d)) n).toNat < 100000

set_option maxRecDepth 16384 in
/-- The task, from what the launch hands the tile. -/
theorem tile_body (c : Fin (grid0.bound 0)) (i : Fin (grid0.bound 1)) (hF : (K (F := F)).Facts) (hpre : PreOK m) (O : CellTallies nD τ sig (HIx 1)) (W : Waits sig (HIx 1)) (hO : ∀ g, O g none = 0) :
    iprop(levAts (K (F := F)).L (K (F := F)).lev ∗ emp ∗ goOf m d c i
        ∗ scopedBufs (V d (cV (crd c i)) (jV (crd c i))) ∗ scopedSems0 (V d (cV (crd c i)) (jV (crd c i))) ∗ owes (V d (cV (crd c i)) (jV (crd c i))) O W)
      ⊢ wp frame (wpE (defs₀ (F := F)) 𝒱₀ (V d (cV (crd c i)) (jV (crd c i))) none) Set.univ
          (cc0_sc_kernel (crd c i) iV (Memref.isWhole_whole _) tV (Memref.isWhole_whole _) eV (Memref.isWhole_whole _) pV (Memref.isWhole_whole _)
            s0 (Memref.isWhole_whole _) s1 (Memref.isWhole_whole _) s2 (Memref.isWhole_whole _) s3 (Memref.isWhole_whole _)
            s4 (Memref.isWhole_whole _) s5 (Memref.isWhole_whole _) cc0_scratch6 cc0_scratch7 cc0_scratch8 cc0_scoped0 cc0_scoped1 cc0_scoped2 cc0_scoped3)
          fun _ => iprop(tdOf m d c i ∗ scopedBufs (V d (cV (crd c i)) (jV (crd c i))) ∗ scopedSems0 (V d (cV (crd c i)) (jV (crd c i)))
            ∗ ∃ W', ⌜∀ p ∈ W', p ∈ W ∨ p.2 = none ∨ p.2 = some (0 : Fin 1)⌝ ∗ owes (V d (cV (crd c i)) (jV (crd c i))) O W') := by
  rw [(K (F := F)).scopedBufs_V hF d (cV (crd c i)) (jV (crd c i)), SparseCore.Cfg.scopedSems0_V (Val := Elt F) d (cV (crd c i)) (jV (crd c i)), ownSems0_V, ownBufs_V]
  unfold goOf tdOf held
  simp only [cellsL, semsL, bufsL, refsL, List.map_cons, List.map_nil, List.foldr_cons, List.foldr_nil]
  iintro ⟨#Hlv, -, Hh, ⟨H0, H1, H2, H3, H4, H5, Hbufs⟩, ⟨Hs6, Hs7, Hs8, Hr0, Hr1, Hr2, Hr3, Hsems⟩, HO⟩
  ihave #Hmw := (show levAts (K (F := F)).L (K (F := F)).lev ⊢ Transfers.MayWaits (V d (cV (crd c i)) (jV (crd c i))) (default : HIx 1) O from
    (K (F := F)).mayWaits_none (thr := V d (cV (crd c i)) (jV (crd c i))) hO) $$ Hlv
  iapply ((wp_task d (crd c i) (m (iLoc d)) (hpre d) (m (tLoc d)) (ShareLeaves.leaf 5 fullShare (tileNo (c, i)))
    (ShareLeaves.leaf 5 fullShare (tileNo (c, i))) O W (m (eLoc d)) (m (pLoc d))).trans (wp_wand frame _ _)) $$ [Hh H0 H1 H2 H3 H4 H5 Hs6 Hs7 Hs8 Hr0 Hr1 Hr2 Hr3 HO]
  · isplitl [Hh]; · iexact Hh
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [Hs6 Hs7 Hs8 Hr0 Hr1 Hr2 Hr3]
    · isplitl [Hs6]; · iexact Hs6
      isplitl [Hs7]; · iexact Hs7
      isplitl [Hs8]; · iexact Hs8
      isplitl [Hr0]; · iexact Hr0
      isplitl [Hr1]; · iexact Hr1
      isplitl [Hr2]; · iexact Hr2
      iexact Hr3
    isplitl [HO]
    · unfold Owed; iexists W; isplitr
      · ipureintro; exact fun p hp => .inl hp
      iexact HO
    iexact Hmw
  iintro %_a ⟨Hh, ⟨H0, H1, H2, H3, H4, H5⟩, ⟨Hs6, Hs7, Hs8, Hr0, Hr1, Hr2, Hr3⟩, HO⟩
  isplitl [Hh]; · iexact Hh
  isplitl [H0 H1 H2 H3 H4 H5 Hbufs]
  · isplitl [H0]; · iexact H0
    isplitl [H1]; · iexact H1
    isplitl [H2]; · iexact H2
    isplitl [H3]; · iexact H3
    isplitl [H4]; · iexact H4
    isplitl [H5]; · iexact H5
    iexact Hbufs
  isplitl [Hs6 Hs7 Hs8 Hr0 Hr1 Hr2 Hr3 Hsems]
  · isplitl [Hs6]; · iexact Hs6
    isplitl [Hs7]; · iexact Hs7
    isplitl [Hs8]; · iexact Hs8
    isplitl [Hr0]; · iexact Hr0
    isplitl [Hr1]; · iexact Hr1
    isplitl [Hr2]; · iexact Hr2
    isplitl [Hr3]; · iexact Hr3
    iexact Hsems
  unfold Owed
  icases HO with ⟨%W', %hW', HO⟩
  iexists W'; isplitr
  · ipureintro; exact fun p hp => (hW' p hp).imp_right Or.inl
  iexact HO

theorem defs₀_vector (c : Fin τ.nSC) (s : Fin τ.nSub) :
    defs₀ (F := F) (.scVector c s) 0 ()
      = SparseCore.onTile hcore0 hsub0 (fun c s => cc0_sc_kernel (crd c s) iV (Memref.isWhole_whole _) tV (Memref.isWhole_whole _) eV (Memref.isWhole_whole _) pV (Memref.isWhole_whole _)
            s0 (Memref.isWhole_whole _) s1 (Memref.isWhole_whole _) s2 (Memref.isWhole_whole _) s3 (Memref.isWhole_whole _)
            s4 (Memref.isWhole_whole _) s5 (Memref.isWhole_whole _) cc0_scratch6 cc0_scratch7 cc0_scratch8 cc0_scoped0 cc0_scoped1 cc0_scoped2 cc0_scoped3) ⟨⟩ c s := rfl

set_option maxRecDepth 16384 in
/-- The launch's obligation on every tile. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d ⟨_, hci.1⟩ ⟨_, hci.2⟩ sc_facts hpre O W hO

end Tile

/-! ## The whole arrays, and the thirty-two tiles' parts -/

theorem ediv : 32 ∣ S4096x128.size 0 := ⟨128, rfl⟩
theorem pdiv : 32 ∣ S32x128.size 0 := ⟨1, rfl⟩

/-- A tile's number among the thirty-two. -/
def no (L : grid0.Coords) : Fin 32 := ⟨wid L, wid_lt L⟩

theorem rect_eRow (L : grid0.Coords) : Rect.unit (s := S4096x128) (k0_off11 L) S128x128.size (k0_off11_inb L) = Rect.part (s := S4096x128) (a₀ := 0) ediv (no L) := by
  unfold Rect.part Rect.block
  congr 1 <;> funext a
  · rw [k0_off11_eq]
    match a with
    | 0 => simp [Shape.partIx, Shape.partSize, no, wid]; try omega
    | 1 => simp [Shape.partIx, Shape.partSize]
  · match a with
    | 0 => simp [Shape.partSize]
    | 1 => simp [Shape.partSize]

theorem set_eRow (L : grid0.Coords) : (eRow L).view.set = (Rect.part (s := S4096x128) (a₀ := 0) ediv (no L)).set := by
  show ((View.whole (main_v0_0_scv : Ref sig .scVector)).slice (Rect.unit (s := S4096x128) (k0_off11 L) S128x128.size (k0_off11_inb L))).set = _
  rw [View.set_slice]
  refine Finset.map_refl.trans ?_
  rw [rect_eRow]

theorem rect_pRow (L : grid0.Coords) : Rect.unit (s := S32x128) (k0_off46 L) S1x128.size (k0_off46_inb L) = Rect.part (s := S32x128) (a₀ := 0) pdiv (no L) := by
  unfold Rect.part Rect.block
  congr 1 <;> funext a
  · rw [k0_off46_eq]
    match a with
    | 0 => simp [Shape.partIx, Shape.partSize, no, wid]; try omega
    | 1 => simp [Shape.partIx, Shape.partSize]
  · match a with
    | 0 => simp [Shape.partSize]
    | 1 => simp [Shape.partSize]

theorem set_pRow (L : grid0.Coords) : (pRow L).view.set = (Rect.part (s := S32x128) (a₀ := 0) pdiv (no L)).set := by
  show (((View.whole (main_v0_1_scv : Ref sig .scVector)).slice (Rect.unit (s := S32x128) (k0_off46 L) S1x128.size (k0_off46_inb L))).reshape S128 squeezes_S1x128_S128.numel_eq).set = _
  rw [View.set_reshape, View.set_slice]
  refine Finset.map_refl.trans ?_
  rw [rect_pRow]

theorem no_crd (x : Fin 2 × Fin 16) : no (crd x.1 x.2) = tileNo x := Fin.ext (tileNo_val x.1 x.2).symm

/-- A whole array is its tiles' parts, whatever the parts, if they are the thirty-two blocks of rows. -/
theorem rows_split {ℓ : Loc nD τ sig} (S : Fin 32 → Finset (Idx ℓ)) (T : Fin 2 → Fin 16 → Finset (Idx ℓ)) (f : Buf (Elt F) ℓ)
    (hT : ∀ x : Fin 2 × Fin 16, T x.1 x.2 = S (tileNo x)) (hd : ∀ i j, i ≠ j → Disjoint (S i) (S j))
    (hc : (Finset.univ : Finset (Fin 32)).biUnion S = Finset.univ) :
    (ℓ ↦{fullShare} f : sProp 𝕄) = bigSep Finset.univ fun c : Fin 2 => bigSep Finset.univ fun i : Fin 16 => ℓ ↦[T c i]{fullShare} f := by
  rw [← hc, pointsTo_biUnion Finset.univ (ℓ := ℓ) S (fun i _ j _ h => hd i j h),
    bigSep_univ_equiv tileNo (fun w : Fin 32 => (ℓ ↦[S w]{fullShare} f : sProp 𝕄)), bigSep_univ_prod]
  exact bigSep_congr fun c _ => bigSep_congr fun i _ => by rw [← hT (c, i)]

theorem shares_split {ℓ : Loc nD τ sig} (f : Buf (Elt F) ℓ) :
    (ℓ ↦{fullShare} f : sProp 𝕄) = bigSep Finset.univ fun c : Fin 2 => bigSep Finset.univ fun i : Fin 16 =>
      ℓ ↦{ShareLeaves.leaf 5 fullShare (tileNo (c, i))} f := by
  rw [ShareLeaves.pointsTo_leaves Finset.univ f 5 fullShare,
    bigSep_univ_equiv tileNo (fun w : Fin (2 ^ 5) => (ℓ ↦{ShareLeaves.leaf 5 fullShare w} f : sProp 𝕄)), bigSep_univ_prod]

/-- The four arrays whole are what the thirty-two tiles hold. -/
theorem held_all (d : Dev nD) (I : Buf (Elt F) (iLoc d)) (Tb : Buf (Elt F) (tLoc d)) (e : Buf (Elt F) (eLoc d)) (p : Buf (Elt F) (pLoc d)) :
    (bigSep Finset.univ fun c : Fin 2 => bigSep Finset.univ fun i : Fin 16 => held d I Tb e p c i)
      = (iprop((iLoc d ↦{fullShare} I) ∗ (tLoc d ↦{fullShare} Tb) ∗ (eLoc d ↦{fullShare} e) ∗ (pLoc d ↦{fullShare} p)) : sProp 𝕄) := by
  rw [shares_split I, shares_split Tb,
    rows_split (ℓ := eLoc d) (fun w => (Rect.part (s := S4096x128) (a₀ := 0) ediv w).set) (fun c i => (eRow (crd c i)).view.set) e
      (fun x => by rw [set_eRow, no_crd]) (fun i j h => Rect.part_disjoint ediv h) (Rect.biUnion_part ediv),
    rows_split (ℓ := pLoc d) (fun w => (Rect.part (s := S32x128) (a₀ := 0) pdiv w).set) (fun c i => (pRow (crd c i)).view.set) p
      (fun x => by rw [set_pRow, no_crd]) (fun i j h => Rect.part_disjoint pdiv h) (Rect.biUnion_part pdiv)]
  unfold held
  simp only [bigSep_sep']

theorem bigSep_calls (d : Dev nD) (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i := rfl

/-- What the call takes, whole; -/
theorem st_eq (d : Dev nD) : (bigSep Finset.univ fun c : Fin ((K (F := F)).nCore 0) => (P m).st 0 d c)
    = iprop((iLoc d ↦{fullShare} m (iLoc d)) ∗ (tLoc d ↦{fullShare} m (tLoc d)) ∗ (eLoc d ↦{fullShare} m (eLoc d)) ∗ (pLoc d ↦{fullShare} m (pLoc d))) :=
  (bigSep_calls d fun c i => goOf m d c i).trans (held_all d _ _ _ _)

/-- and what it brings back. -/
theorem dn_eq (d : Dev nD) : (bigSep Finset.univ fun c : Fin ((K (F := F)).nCore 0) => (P m).dn 0 d c)
    = iprop((iLoc d ↦{fullShare} m (iLoc d)) ∗ (tLoc d ↦{fullShare} m (tLoc d))
      ∗ (eLoc d ↦{fullShare} (rowsOut d (m (iLoc d)) (m (tLoc d)) : Buf (Elt F) (eLoc d)))
      ∗ (pLoc d ↦{fullShare} (partOut d (m (iLoc d)) (m (tLoc d)) : Buf (Elt F) (pLoc d)))) :=
  (bigSep_calls d fun c i => tdOf m d c i).trans (held_all d _ _ _ _)

/-! ## The launch element of the ghost state -/

def u₀ : UU := (initOf (K (F := F)).hsCells (K (F := F)).hsToks, (initOf (Pipeline.cells cfgs cellOf_inj) (Pipeline.launchToks cfgs cellOf_inj), 1))

theorem ownU_split (a : UH) (b : UR) : (ownU ((a, (b, 1)) : UU) : sProp 𝕄) ⊢ iprop(BI.own (EH a) ∗ BI.own (ER b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the TensorCore keeps for its own call: its staging cells' ghost state and their tokens. -/
def Gst (d : Dev nD) : sProp 𝕄 :=
  iprop(Pipeline.cellsGhost cfgs (ER (F := F)) 0 d ∗ Pipeline.toksInit cfgs (ER (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => Gst (F := F) d)
        ∗ bigSep Finset.univ fun thr : Thread nD τ => bigSep Finset.univ fun q : Fin 1 => (P m).x q thr) := by
  unfold u₀
  iintro Hu
  ihave H := (ownU_split _ _) $$ Hu
  icases H with ⟨HH, HR⟩
  imod (Pipeline.fund_ghost cfgs (ER (F := F)) cellOf_inj) $$ HR with ⟨Hc, Ht⟩
  imodintro
  isplitl [HH]; · iexact HH
  isplitl [Hc Ht]
  · unfold Gst
    rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

end Cert.Proof.KernelIdeal

end
-- ==== Proof.IdealRegion.lean ====
/-
  The TensorCore call: its body on any whole staging buffers, the call's proof data over what the arrays hold when it is
  entered, and what it leaves in the result.
-/
module

public import Idealize.ShloMosaic.Lib.Pipeline.FrameBody
public import Idealize.ShloMosaic.Lib.Pipeline.Value
public import Idealize.ShloMosaic.Lib.Pipeline.ValueKit
public import Idealize.ShloMosaic.Lib.Pipeline.RegionArrays
public import Idealize.ShloMosaic.Lib.VecWindow
public import Idealize.ShloMosaic.Lib.Claim
public import Idealize.ShloMosaic.Lib.Tactic
public import proofs.«01_k».proof.Proof.Gen.KernelIdeal.Points
public import proofs.«01_k».proof.Proof.IdealLaunch

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

variable {F : FTy → Type}

local notation "𝕄" => MT nD τ sig (HIx 1) (Elt F) ℕ UU ℕ

variable [FloatOps F] [Named F]

/-! ## The body on any whole staging buffers -/

theorem pay_congr (i : grid1.Coords) {X1 Y1 : Vec F S256x128 .f32} {X2 Y2 : Vec F S32x128 .f32} {X3 Y3 : Vec F S128x1024 .f32}
    {X4 Y4 : Vec F S1x1024 .f32} {X5 Y5 : Vec F S1024x128 .f32} {X6 Y6 : Vec F S1x128 .f32} (e1 : X1 = Y1) (e2 : X2 = Y2)
    (e3 : X3 = Y3) (e4 : X4 = Y4) (e5 : X5 = Y5) (e6 : X6 = Y6) :
    k1_pay1 i X1 X2 X3 X4 X5 X6 = k1_pay1 i Y1 Y2 Y3 Y4 Y5 Y6 := by
  rw [e1, e2, e3, e4, e5, e6]

set_option maxHeartbeats 2000000 in
/-- From six whole buffers that read `X0 … X5` and a seventh that reads anything, the body runs to its return: the six
    stay, and the seventh reads the stored block of the six. -/
theorem body_run (c : Dev nD) (E : Set ℕ) (i : grid1.Coords) (M1 : Memref sig .tc .vmem S256x128 .f32) (h1 : M1.IsWhole)
    (M2 : Memref sig .tc .vmem S32x128 .f32) (h2 : M2.IsWhole) (M3 : Memref sig .tc .vmem S128x1024 .f32) (h3 : M3.IsWhole)
    (M4 : Memref sig .tc .vmem S1x1024 .f32) (h4 : M4.IsWhole) (M5 : Memref sig .tc .vmem S1024x128 .f32) (h5 : M5.IsWhole)
    (M6 : Memref sig .tc .vmem S1x128 .f32) (h6 : M6.IsWhole) (M7 : Memref sig .tc .vmem S256x128 .f32) (h7 : M7.IsWhole)
    (X1 : S256x128.Idx → F .f32) (X2 : S32x128.Idx → F .f32) (X3 : S128x1024.Idx → F .f32) (X4 : S1x1024.Idx → F .f32)
    (X5 : S1024x128.Idx → F .f32) (X6 : S1x128.Idx → F .f32) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ (∃ X7, owns (c : Thread nD τ) M7 fullShare X7)
        ∗ (iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5 ∗ owns (c : Thread nD τ) M6 fullShare X6
            ∗ owns (c : Thread nD τ) M7 fullShare (k1_pay1 i X1 X2 X3 X4 X5 X6)) -∗ Q ⟨⟩))
      ⊢ wp frame (wpE (defs₀ (F := F)) 𝒱₀ (c : Thread nD τ) none) E (cc1_body i M1 h1 M2 h2 M3 h3 M4 h4 M5 h5 M6 h6 M7 h7) Q := by
  rw [cc1_body_eq_skeleton]; unfold cc1_body_skel
  rw [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%X7, %f7, %hf7, H7⟩, Hk⟩
  subst hf1 hf2 hf3 hf4 hf5 hf6
  sl_exec
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr; swap; (· iexact H7); ipureintro
  refine ( View.read_writes_full _ _ _ _ _).trans ?_
  exact pay_congr i (View.readAt_full _ _ _) (View.readAt_full _ _ _) (View.readAt_full _ _ _) (View.readAt_full _ _ _)
    (View.readAt_full _ _ _) (View.readAt_full _ _ _)

/-! ## The call's proof data, from what the arrays hold when it is entered -/

variable (V : (c : Dev nD) → (b : Ref sig .tc) → Buf (Elt F) ((c : Thread nD τ).loc b)) (bd : ℕ)

/-- The block of window `w` at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on core `c`: the arrays as the call finds them; after the body at point `t` each input's buffer at its
    block and the result's at the stored block of those; nothing owed, and what the core has waited for is bounded by `bd`. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k1_pay1 (grid1.coords t) (iblk V c 0 t) (iblk V c 1 t) (iblk V c 2 t) (iblk V c 3 t) (iblk V c 4 t) (iblk V c 5 t)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ bd}

theorem A_eq (c : Dev nD) (w : Fin cfg1.W) : (dat V bd c).A w = V c (Pipeline.arrRef spec1 w) := by
  dsimp only [dat]

theorem after_0 (c : Dev nD) (t : Fin cfg1.N) : (dat V bd c).after 0 t = iblk V c 0 t := by dsimp only [dat]
theorem after_1 (c : Dev nD) (t : Fin cfg1.N) : (dat V bd c).after 1 t = iblk V c 1 t := by dsimp only [dat]
theorem after_2 (c : Dev nD) (t : Fin cfg1.N) : (dat V bd c).after 2 t = iblk V c 2 t := by dsimp only [dat]
theorem after_3 (c : Dev nD) (t : Fin cfg1.N) : (dat V bd c).after 3 t = iblk V c 3 t := by dsimp only [dat]
theorem after_4 (c : Dev nD) (t : Fin cfg1.N) : (dat V bd c).after 4 t = iblk V c 4 t := by dsimp only [dat]
theorem after_5 (c : Dev nD) (t : Fin cfg1.N) : (dat V bd c).after 5 t = iblk V c 5 t := by dsimp only [dat]
theorem after_6 (c : Dev nD) (t : Fin cfg1.N) : (dat V bd c).after 6 t
    = k1_pay1 (grid1.coords t) (iblk V c 0 t) (iblk V c 1 t) (iblk V c 2 t) (iblk V c 3 t) (iblk V c 4 t) (iblk V c 5 t) := by dsimp only [dat]

/-! Each input's current staging buffer holds its block at every point. -/

theorem before_0 (c : Dev nD) (t : Fin cfg1.N) (d) : (dat V bd c).before 0 t d = iblk V c 0 t :=
  ((dat V bd c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg1.N) (d) : (dat V bd c).before 1 t d = iblk V c 1 t :=
  ((dat V bd c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem before_2 (c : Dev nD) (t : Fin cfg1.N) (d) : (dat V bd c).before 2 t d = iblk V c 2 t :=
  ((dat V bd c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem before_3 (c : Dev nD) (t : Fin cfg1.N) (d) : (dat V bd c).before 3 t d = iblk V c 3 t :=
  ((dat V bd c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

theorem before_4 (c : Dev nD) (t : Fin cfg1.N) (d) : (dat V bd c).before 4 t d = iblk V c 4 t :=
  ((dat V bd c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

theorem before_5 (c : Dev nD) (t : Fin cfg1.N) (d) : (dat V bd c).before 5 t d = iblk V c 5 t :=
  ((dat V bd c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- The body at any point, the invariant and the core's debts passing through unread. -/
theorem body_at (c : Dev nD) (t : Fin cfg1.N) :
    iprop((dat V bd c).Φ t.castSucc ∗ (dat V bd c).owesAt none t.castSucc
        ∗ (∃ d, owns (c : Thread nD τ) (st1_0 t) fullShare ((dat V bd c).before 0 t d))
        ∗ (∃ d, owns (c : Thread nD τ) (st1_1 t) fullShare ((dat V bd c).before 1 t d))
        ∗ (∃ d, owns (c : Thread nD τ) (st1_2 t) fullShare ((dat V bd c).before 2 t d))
        ∗ (∃ d, owns (c : Thread nD τ) (st1_3 t) fullShare ((dat V bd c).before 3 t d))
        ∗ (∃ d, owns (c : Thread nD τ) (st1_4 t) fullShare ((dat V bd c).before 4 t d))
        ∗ (∃ d, owns (c : Thread nD τ) (st1_5 t) fullShare ((dat V bd c).before 5 t d))
        ∗ (∃ d, owns (c : Thread nD τ) (st1_6 t) fullShare ((dat V bd c).before 6 t d)))
      ⊢ wp frame (wpE (defs₀ (F := F)) 𝒱₀ (c : Thread nD τ) none) Set.univ (bodyAt1 t) fun _ =>
        iprop((dat V bd c).Φ t.succ ∗ (dat V bd c).owesAt none t.succ
          ∗ owns (c : Thread nD τ) (st1_0 t) fullShare ((dat V bd c).after 0 t)
          ∗ owns (c : Thread nD τ) (st1_1 t) fullShare ((dat V bd c).after 1 t)
          ∗ owns (c : Thread nD τ) (st1_2 t) fullShare ((dat V bd c).after 2 t)
          ∗ owns (c : Thread nD τ) (st1_3 t) fullShare ((dat V bd c).after 3 t)
          ∗ owns (c : Thread nD τ) (st1_4 t) fullShare ((dat V bd c).after 4 t)
          ∗ owns (c : Thread nD τ) (st1_5 t) fullShare ((dat V bd c).after 5 t)
          ∗ owns (c : Thread nD τ) (st1_6 t) fullShare ((dat V bd c).after 6 t)) := by
  unfold bodyAt1
  simp only [before_0, before_1, before_2, before_3, before_4, before_5]
  rw [show (dat V bd c).Φ t.succ = (dat V bd c).Φ t.castSucc from rfl,
    show (dat V bd c).owesAt none t.succ = (dat V bd c).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid1.coords t) _ _ _ _ _ _ _ _ _ _ _ _ _ _ (iblk V c 0 t) (iblk V c 1 t) (iblk V c 2 t) (iblk V c 3 t)
    (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat V bd c) (defs₀ (F := F)) 𝒱₀ none Set.univ := fun t => by
  rw [bigSep_W1, bigSep_W1]
  exact body_at V bd c t

/-! ## The call over the core's unscoped buffers -/

abbrev adm : (p : Fin 1) → (pcfgs (F := F) p).Adm := fun p => (cfgs p).toPCfg_adm

/-- The proof data of the program's one pipelined call. -/
def pdats : (p : Fin 1) → (c : Dev nD) → Dat τ (Elt F) (HIx 1) ℕ UU ℕ (Pipeline.pin (pcfgs (F := F)) adm p) c
  | ⟨0, _⟩ => fun c => dat V bd c

/-- The result's array after the call: every point's stored block written back. -/
def outArr (c : Dev nD) : Buf (Elt F) ((c : Thread nD τ).loc main_v3) := (dat V bd c).arrAt 6 cfg1.N

variable (Vp : (c : Dev nD) → (b : Ref sig .tc) → Buf (Elt F) ((c : Thread nD τ).loc b))

set_option backward.isDefEq.respectTransparency.types false in
/-- The TensorCore call entered with every unscoped buffer at `V c` and left with them at `Vp c`, which has the result's
    array at `outArr` and the rest as `V c`. -/
def reg (hVp_out : ∀ c, Vp c main_v3 = outArr V bd c)
    (hVp_ne : ∀ c (b : Ref sig .tc), b ≠ main_v3 → Vp c b = V c b) :
    Pipeline.RegionSeg (pcfgs (F := F)) adm (pdats V bd) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V bd c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W bd⌝ ∗ owes (c : Thread nD τ) (0 : CellTallies nD τ sig (HIx 1)) W)
  post c := iprop(unscopedBufs c (Vp c) ∗ ∃ W, ⌜(K (F := F)).WBelow (c : Thread nD τ) W bd⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V bd) launch1.win launch1.arr_whole c
      ((pdats V bd 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V bd 0 c).Φ 0 = Pipeline.scopedRest spec1 c from rfl]
    iintro ⟨-, -, Hr⟩; iexact Hr
  hout c := by
    rw [Pipeline.ownSems0_none, show (pdats V bd 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V bd) ((pdats V bd 0 c).share_full fun _ => rfl) (V c) (Vp c) ((pdats V bd 0 c).arrAt · cfg1.N)
      (fun w => by
        fin_cases w
        · exact ((pdats V bd 0 c).arrAt_in 0 rfl _).trans (hVp_ne c main_v0_0 (by decide)).symm
        · exact ((pdats V bd 0 c).arrAt_in 1 rfl _).trans (hVp_ne c main_v0_1 (by decide)).symm
        · exact ((pdats V bd 0 c).arrAt_in 2 rfl _).trans (hVp_ne c main_arg3 (by decide)).symm
        · exact ((pdats V bd 0 c).arrAt_in 3 rfl _).trans (hVp_ne c main_v1 (by decide)).symm
        · exact ((pdats V bd 0 c).arrAt_in 4 rfl _).trans (hVp_ne c main_arg5 (by decide)).symm
        · exact ((pdats V bd 0 c).arrAt_in 5 rfl _).trans (hVp_ne c main_v2 (by decide)).symm
        · exact (hVp_out c).symm)
      (fun b hb => hVp_ne c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

/-! ## What the call leaves in the result -/

theorem index_0 : ∀ t : Fin cfg1.N, win1_0.index t = ![t.val, 0] := (by decide +kernel : ∀ t : Fin grid1.N, _)
theorem index_6 : ∀ t : Fin cfg1.N, win1_6.index t = ![t.val, 0] := (by decide +kernel : ∀ t : Fin grid1.N, _)
theorem index_whole : ∀ t : Fin cfg1.N, win1_1.index t = ![0, 0] ∧ win1_2.index t = ![0, 0] ∧ win1_3.index t = ![0, 0]
    ∧ win1_4.index t = ![0, 0] ∧ win1_5.index t = ![0, 0] := (by decide +kernel : ∀ t : Fin grid1.N, _)

/-- The point whose block holds row `r`. -/
def ptOf (r : Fin 4096) : Fin grid1.N := ⟨r.val / 256, by have := r.isLt; rw [N_1]; omega⟩

/-- The sixteen stored blocks put together: row `r` is row `r % 256` of what the body stores at point `r / 256`. -/
def mlpOut (E : S4096x128.Idx → F .f32) (Pt : S32x128.Idx → F .f32) (W1 : S128x1024.Idx → F .f32) (B1 : S1x1024.Idx → F .f32)
    (W2 : S1024x128.Idx → F .f32) (B2 : S1x128.Idx → F .f32) : S4096x128.Idx → F .f32 := fun x =>
  k1_pay1 (grid1.coords (ptOf (x 0))) (fun y => E (ValueIdx.ix2 (⟨256 * ((x 0).val / 256) + (y 0).val, by
      have h0 : (x 0).val < 4096 := (x 0).isLt
      have h1 : (y 0).val < 256 := (y 0).isLt
      omega⟩ : Fin 4096) (y 1))) Pt W1 B1 W2 B2 (ValueIdx.ix2 (⟨(x 0).val % 256, Nat.mod_lt _ (by decide)⟩ : Fin 256) (x 1))

/-- A block of the rows is the rows' block, and a window that takes its whole array reads it. -/
theorem iblk_0 (c : Dev nD) (t : Fin cfg1.N) (y : S256x128.Idx) (r : Fin 4096) (hr : r.val = 256 * t.val + (y 0).val) :
    iblk V c 0 t y = V c main_v0_0 (ValueIdx.ix2 r (y 1)) := by
  blk_ext! [iblk, index_0 t]
  exact (by omega : t.val * 256 + (y 0).val = r.val)
theorem iblk_1 (c : Dev nD) (t : Fin cfg1.N) : iblk V c 1 t = V c main_v0_1 := by blk_ext! [iblk, index_whole t]
theorem iblk_2 (c : Dev nD) (t : Fin cfg1.N) : iblk V c 2 t = V c main_arg3 := by blk_ext! [iblk, index_whole t]
theorem iblk_3 (c : Dev nD) (t : Fin cfg1.N) : iblk V c 3 t = V c main_v1 := by blk_ext! [iblk, index_whole t]
theorem iblk_4 (c : Dev nD) (t : Fin cfg1.N) : iblk V c 4 t = V c main_arg5 := by blk_ext! [iblk, index_whole t]
theorem iblk_5 (c : Dev nD) (t : Fin cfg1.N) : iblk V c 5 t = V c main_v2 := by blk_ext! [iblk, index_whole t]

theorem outArr_eq (c : Dev nD) : outArr V bd c
    = mlpOut (V c main_v0_0) (V c main_v0_1) (V c main_arg3) (V c main_v1) (V c main_arg5) (V c main_v2) := by
  unfold outArr
  refine (dat V bd c).arrAt_eq_of_covers 6 _ (by decide +kernel) fun t _ y => ?_
  blk_simp
  rw [after_6, iblk_1, iblk_2, iblk_3, iblk_4, iblk_5]
  have ht : t.val < 16 := lt_of_lt_of_eq t.isLt N_1
  have hy : (y 0).val < 256 := (y 0).isLt
  have h0 : (((cfg1.win 6).blk t).view.emb y 0).val = 256 * t.val + (y 0).val := by
    blk_simp [index_6 t]; omega
  have h1 : (((cfg1.win 6).blk t).view.emb y 1).val = (y 1).val := by
    blk_simp [index_6 t]
  generalize ((cfg1.win 6).blk t).view.emb y = z at h0 h1 ⊢
  have h0' : (z 0).val / 256 = t.val := by omega
  have hX : iblk V c 0 t = fun y' : S256x128.Idx => V c main_v0_0 (ValueIdx.ix2 (⟨256 * ((z 0).val / 256) + (y' 0).val, by
      have h2 : (z 0).val < 4096 := (z 0).isLt
      have h3 : (y' 0).val < 256 := (y' 0).isLt
      omega⟩ : Fin 4096) (y' 1)) := by
    funext y'
    exact iblk_0 V c t y' _ (by show 256 * ((z 0).val / 256) + (y' 0).val = _; rw [h0'])
  have hy' : y = (ValueIdx.ix2 (⟨(z 0).val % 256, Nat.mod_lt _ (by decide)⟩ : Fin 256) (z 1) : S256x128.Idx) := by
    funext a
    match a with
    | ⟨0, _⟩ => exact Fin.ext (show (y 0).val = (z 0).val % 256 by omega)
    | ⟨1, _⟩ => exact Fin.ext h1.symm
  have hp : ptOf (z 0) = t := Fin.ext h0'
  unfold mlpOut
  rw [hp]
  exact congr (pay_congr (grid1.coords t) hX rfl rfl rfl rfl rfl) hy'

end Cert.Proof.KernelIdeal

end
-- ==== Proof.IdealRun.lean ====
/-
  The whole program's run: the SparseCore call, the two reshapes and the TensorCore call in turn, what the result holds at
  the end, and that no argument has changed.
-/
module

public import Idealize.ShloMosaic.Lib.Pipeline.Frame
public import proofs.«01_k».proof.Proof.IdealRegion

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

variable [FloatOps F] [Named F]

variable (m : (ℓ : Loc nD τ sig) → Buf (Elt F) ℓ) (ρ : Dev nD → PrngReg)

/-! ## What every buffer holds, stage by stage -/

/-- At launch; -/
abbrev V0 (d : Dev nD) : Valuation τ sig (Elt F) := fun b => m (d, b)

/-- after the SparseCore call, which fills the rows and the tiles' partial sums; -/
def V1 (d : Dev nD) : Valuation τ sig (Elt F) :=
  Function.update (Function.update (V0 m d) (Proc.devRef .tc main_v0_0) (rowsOut d (m (iLoc d)) (m (tLoc d))))
    (Proc.devRef .tc main_v0_1) (partOut d (m (iLoc d)) (m (tLoc d)))

abbrev rsh1 : HloOp τ sig (Elt F) := StableHlo.reshape main_arg4 main_v1 (rfl : (.f32 : EltTy) = .f32) shapeCasts_S1024_S1x1024
abbrev rsh2 : HloOp τ sig (Elt F) := StableHlo.reshape main_arg6 main_v2 (rfl : (.f32 : EltTy) = .f32) shapeCasts_S128_S1x128

/-- after the two reshapes of the biases; -/
def V2 (d : Dev nD) : Valuation τ sig (Elt F) := (rsh2 (F := F)).result ((rsh1 (F := F)).result (V1 m d))

abbrev V2r (c : Dev nD) (b : Ref sig .tc) : Buf (Elt F) ((c : Thread nD τ).loc b) := V2 m c b

/-- The bound on what the core has waited for once the SparseCore call is over. -/
abbrev bd1 : ℕ := 8 * 1

/-- and after the TensorCore call. -/
def V3 (d : Dev nD) : Valuation τ sig (Elt F) :=
  Function.update (V2 m d) (Proc.devRef .tc main_v3) (outArr (V2r m) bd1 d)

abbrev V3r (c : Dev nD) (b : Ref sig .tc) : Buf (Elt F) ((c : Thread nD τ).loc b) := V3 m c b

theorem V1_rows (d : Dev nD) : V1 m d main_v0_0 = rowsOut d (m (iLoc d)) (m (tLoc d)) := by
  unfold V1
  rw [Function.update_of_ne (StableHlo.devRef_ne_of_ne (by decide)), Function.update_self]
theorem V1_part (d : Dev nD) : V1 m d main_v0_1 = partOut d (m (iLoc d)) (m (tLoc d)) := by
  unfold V1; rw [Function.update_self]
theorem V1_ne (d : Dev nD) (b : Ref sig .tc) (h0 : b ≠ main_v0_0) (h1 : b ≠ main_v0_1) : V1 m d b = m ((d : Thread nD τ).loc b) := by
  unfold V1
  rw [Function.update_of_ne (StableHlo.devRef_ne_of_ne h1), Function.update_of_ne (StableHlo.devRef_ne_of_ne h0)]
theorem V2_ne (d : Dev nD) (b : Ref sig .tc) (h0 : b ≠ main_v1) (h1 : b ≠ main_v2) : V2 m d b = V1 m d b := by
  unfold V2
  rw [StableHlo.reshape_result_ne _ _ _ _ _ _ _ h1, StableHlo.reshape_result_ne _ _ _ _ _ _ _ h0]
theorem V3_out (d : Dev nD) : V3 m d main_v3 = outArr (V2r m) bd1 d := by
  unfold V3; rw [Function.update_self]
theorem V3_ne (d : Dev nD) (b : Ref sig .tc) (h : b ≠ main_v3) : V3 m d b = V2 m d b := by
  unfold V3
  rw [Function.update_of_ne (StableHlo.devRef_ne_of_ne h)]

/-! ## The main program on the TensorCore -/

/-- The unscoped buffers the SparseCore call does not touch. -/
abbrev others : Finset (Ref sig .tc) := {main_arg1, main_arg3, main_arg4, main_arg5, main_arg6, main_v1, main_v2, main_v3}

omit [FloatOps F] [Named F] in
theorem unscopedBufs_eq (d : Dev nD) (W : (b : Ref sig .tc) → Buf (Elt F) ((d : Thread nD τ).loc b)) :
    (unscopedBufs d W : sProp 𝕄) = iprop((iLoc d ↦{fullShare} W main_arg0) ∗ (tLoc d ↦{fullShare} W main_arg2)
      ∗ (eLoc d ↦{fullShare} W main_v0_0) ∗ (pLoc d ↦{fullShare} W main_v0_1)
      ∗ bigSep others fun b => ((d : Thread nD τ).loc b) ↦{fullShare} W b) := by
  unfold unscopedBufs
  rw [show (Finset.univ.filter fun b : Ref sig .tc => ¬ b.isScoped)
      = insert main_arg0 (insert main_arg2 (insert main_v0_0 (insert main_v0_1 others))) by decide,
    SparseCore.bigSep_insert' (by decide), SparseCore.bigSep_insert' (by decide), SparseCore.bigSep_insert' (by decide),
    SparseCore.bigSep_insert' (by decide)]

theorem others_eq (d : Dev nD) : (bigSep others fun b => ((d : Thread nD τ).loc b) ↦{fullShare} V1 m d b)
    = (bigSep others fun b => ((d : Thread nD τ).loc b) ↦{fullShare} m ((d : Thread nD τ).loc b) : sProp 𝕄) :=
  bigSep_congr fun b hb => by
    rw [V1_ne m d b (by rintro rfl; exact absurd hb (by decide)) (by rintro rfl; exact absurd hb (by decide))]

abbrev FIN (d : Dev nD) : sProp 𝕄 := unscopedBufs d (V3r m d)

abbrev tcReg := reg (V2r m) bd1 (V3r m) (V3_out m) fun c b h => V3_ne m c b h

theorem reg_pre (d : Dev nD) : (tcReg m).pre d = iprop(unscopedBufs d (V2r m d)
    ∗ ∃ W, ⌜(K (F := F)).WBelow (d : Thread nD τ) W bd1⌝ ∗ owes (d : Thread nD τ) (0 : CellTallies nD τ sig (HIx 1)) W) := rfl
theorem reg_post (d : Dev nD) : (tcReg m).post d = iprop(unscopedBufs d (V3r m d)
    ∗ ∃ W, ⌜(K (F := F)).WBelow (d : Thread nD τ) W bd1⌝ ∗ owes (d : Thread nD τ) (0 : CellTallies nD τ sig (HIx 1)) W) := rfl

/-- After the one SparseCore call the TensorCore owes no start. -/
theorem Otc_one (d : Dev nD) : (K (F := F)).Otc d (0 + 1) = 0 := by
  unfold SparseCore.Cfg.Otc
  refine Finset.sum_eq_zero fun q _ => if_neg ?_
  have := q.isLt
  omega

theorem owes_one (d : Dev nD) (W : Waits sig (HIx 1)) :
    (owes (SparseCore.T d) ((K (F := F)).Otc d (0 + 1)) W : sProp 𝕄) = owes (d : Thread nD τ) (0 : CellTallies nD τ sig (HIx 1)) W := by
  rw [Otc_one]

theorem call_eq : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun _ => .ret ⟨⟩) := rfl

set_option maxHeartbeats 1000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gst d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Ht, He, Hp, Hr⟩, Hts, -⟩, Hg⟩
  iapply ((K (F := F)).wp_run (D (F := F)) 𝒱 (EH := EH) (P := P m) κ d 0)
  isplitr; · iexact Hctx
  isplitl [Hst]; · iexact Hst
  isplitl [Hi Ht He Hp]
  · rw [st_eq]
    isplitl [Hi]; · iexact Hi
    isplitl [Ht]; · iexact Ht
    isplitl [He]; · iexact He
    iexact Hp
  iintro ⟨Hst, Hdn⟩
  ihave Hdn' := (Entails.of_eq (dn_eq m d)) $$ Hdn
  icases Hdn' with ⟨Hi, Ht, He, Hp⟩
  ihave Hu : (StableHlo.held (SparseCore.T d) (Pipeline.ucRefs τ sig) (V1 m d)) $$ [Hi Ht He Hp Hr]
  · rw [← Pipeline.unscopedBufs_held, unscopedBufs_eq]
    rw [V1_rows, V1_part, V1_ne m d main_arg0 (by decide) (by decide), V1_ne m d main_arg2 (by decide) (by decide), others_eq]
    isplitl [Hi]; · iexact Hi
    isplitl [Ht]; · iexact Ht
    isplitl [He]; · iexact He
    isplitl [Hp]; · iexact Hp
    iexact Hr
  iapply (StableHlo.wp_hlo_within 𝒱 (SparseCore.T d) none Set.univ (op := rsh1) (Pipeline.sub_ucRefs _ (StableHlo.reshape_bufs_sub _ _ _ _ _ _))) $$ [Hb Hu]
  · isplitl [Hb] <;> iassumption
  iintro ⟨Hb, Hu⟩
  simp only [wp_ret]
  imodintro
  iapply (StableHlo.wp_hlo_within 𝒱 (SparseCore.T d) none Set.univ (op := rsh2) (Pipeline.sub_ucRefs _ (StableHlo.reshape_bufs_sub _ _ _ _ _ _))) $$ [Hb Hu]
  · isplitl [Hb] <;> iassumption
  iintro ⟨Hb, Hu⟩
  simp only [wp_ret]
  imodintro
  rw [call_eq]
  iapply ((K (F := F)).wp_liftProg (D (F := F)) 𝒱 (SparseCore.T d) Set.univ none _ _)
  iapply (Pipeline.RegionSeg.wp (pcfgs (F := F)) adm (pdats (V2r m) bd1) none cellOf_inj ER defs₀ 𝒱₀ (K (F := F)).L (K (F := F)).lev
    (tcReg m) d none (fun u hu => nomatch hu) _ _)
  unfold SparseCore.Cfg.tcSt Gst
  icases Hst with ⟨⟨%W, %hW, HO⟩, Hrest⟩
  icases Hg with ⟨Hg1, Hg2⟩
  isplitr [Hb Hu HO Hg1 Hg2]
  · iintro ⟨Hb, Hpost⟩
    ihave Hpost' := (Entails.of_eq (reg_post m d)) $$ Hpost
    icases Hpost' with ⟨Hu, HO⟩
    simp only [wp_ret]
    imodintro
    imodintro
    isplitl [HO Hrest]
    · isplitl [HO]
      · rw [Otc_one d]
        iexact HO
      iexact Hrest
    isplitl [Hu]; · iexact Hu
    isplitl [Hb] <;> iassumption
  isplitl [Hb]; · iexact Hb
  isplitl [Hu HO]
  · iapply (Entails.of_eq (reg_pre m d).symm)
    isplitl [Hu]
    · iapply (Entails.of_eq (Pipeline.unscopedBufs_held d (V2 m d)).symm); iexact Hu
    iexists W
    isplitr; · ipureintro; exact hW
    iapply (Entails.of_eq (owes_one d W))
    iexact HO
  isplitr; · iapply (SparseCore.Cfg.ctx_levAts κ); iexact Hctx
  isplitl [Hg1]; · iexact Hg1
  iexact Hg2

/-! ## The program's run -/

/-- Every buffer outside the kernels' own at what the last stage holds. -/
def fq (d : Dev nD) (s' : Phys nD τ sig (Elt F)) : Prop :=
  ∀ b : Ref sig .tc, ¬ b.isScoped → s'.mem.mem ((d : Thread nD τ).loc b) = V3r m d b

theorem hfin (d : Dev nD) (s' : Phys nD τ sig (Elt F)) : iprop(FIN m d ∗ SI s') ⊢ (⌜fq m d s'⌝ : sProp 𝕄) := by
  unfold fq
  refine Entails.trans (forall_intro fun b => ?_) pure_forall.2
  refine Entails.trans (forall_intro fun hb => ?_) pure_forall.2
  have h1 : FIN m d ⊢ ((d : Thread nD τ).loc b ↦{fullShare} V3r m d b : sProp 𝕄) :=
    bigSep_elim (Finset.mem_filter.mpr ⟨Finset.mem_univ b, hb⟩)
  iintro ⟨Hu, HSI⟩
  ihave Hb := h1 $$ Hu
  ihave H := (SI_pointsTo_agree (st := s') (ℓ := (d : Thread nD τ).loc b) (I := Finset.univ) (q := fullShare) (f := V3r m d b)) $$ [HSI Hb]
  · isplitl [HSI] <;> iassumption
  icases H with %h
  ipureintro
  exact funext fun i => h i (Finset.mem_univ i)

/-- What the run ends in: every semaphore at zero, every buffer as the last stage has it. -/
def QC : PUnit × MemSt nD τ sig (Elt F) → Prop := fun r =>
  (∀ (c : Dev nD) (b : Ref sig .tc), ¬ b.isScoped → r.2.mem ((c : Thread nD τ).loc b) = V3r m c b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) sc_facts v₀
    (fun q hq => match q with | 0 => nomatch hq)
    (fun q _ => match q with | 0 => tileObl m hpre)
    (fun q _ => match q with | 0 => SparseCore.Cfg.VecSplit.of_plain (vecSplit m))
    m ρ main (fun d => Gst d) (FIN m) (u₀ (F := F)) (sep_elim_left.trans (hu₀ m)) (hmain m ρ) (fq m) (hfin m) (QC m)
    (fun _ h hz => ⟨h, hz⟩)

/-- The result at the end: the sixteen blocks of the network's answers to the rows, the last row's bag averaged. -/
def outOf (d : Dev nD) : S4096x128.Idx → F .f32 :=
  mlpOut (rowsOut d (m (iLoc d)) (m (tLoc d))) (partOut d (m (iLoc d)) (m (tLoc d))) (m ((d : Thread nD τ).loc main_arg3))
    (shapeCast S1x1024 (m ((d : Thread nD τ).loc main_arg4)) shapeCasts_S1024_S1x1024) (m ((d : Thread nD τ).loc main_arg5))
    (shapeCast S1x128 (m ((d : Thread nD τ).loc main_arg6)) shapeCasts_S128_S1x128)

theorem V3_result (d : Dev nD) : V3r m d main_v3 = outOf m d := by
  unfold V3r
  rw [V3_out, outArr_eq]
  unfold outOf
  have e0 : V2r m d main_v0_0 = rowsOut d (m (iLoc d)) (m (tLoc d)) :=
    (V2_ne m d main_v0_0 (by decide) (by decide)).trans (V1_rows m d)
  have e1 : V2r m d main_v0_1 = partOut d (m (iLoc d)) (m (tLoc d)) :=
    (V2_ne m d main_v0_1 (by decide) (by decide)).trans (V1_part m d)
  have e2 : V2r m d main_arg3 = m ((d : Thread nD τ).loc main_arg3) :=
    (V2_ne m d main_arg3 (by decide) (by decide)).trans (V1_ne m d main_arg3 (by decide) (by decide))
  have e4 : V2r m d main_arg5 = m ((d : Thread nD τ).loc main_arg5) :=
    (V2_ne m d main_arg5 (by decide) (by decide)).trans (V1_ne m d main_arg5 (by decide) (by decide))
  have e3 : V2r m d main_v1 = shapeCast S1x1024 (m ((d : Thread nD τ).loc main_arg4)) shapeCasts_S1024_S1x1024 := by
    show V2 m d main_v1 = _
    unfold V2
    rw [StableHlo.reshape_result_ne _ _ _ _ _ _ _ (by decide), StableHlo.reshape_result, V1_ne m d main_arg4 (by decide) (by decide)]
    rfl
  have e5 : V2r m d main_v2 = shapeCast S1x128 (m ((d : Thread nD τ).loc main_arg6)) shapeCasts_S128_S1x128 := by
    show V2 m d main_v2 = _
    unfold V2
    rw [StableHlo.reshape_result, StableHlo.reshape_result_ne _ _ _ _ _ _ _ (by decide), V1_ne m d main_arg6 (by decide) (by decide)]
    rfl
  rw [e0, e1, e2, e3, e4, e5]

theorem V3_arg (d : Dev nD) (b : Ref sig .tc) (hb : b ∈ ({main_arg0, main_arg1, main_arg2, main_arg3, main_arg4, main_arg5, main_arg6} : Finset (Ref sig .tc))) :
    V3r m d b = m ((d : Thread nD τ).loc b) := by
  unfold V3r
  rw [V3_ne m d b (by rintro rfl; exact absurd hb (by decide)),
    V2_ne m d b (by rintro rfl; exact absurd hb (by decide)) (by rintro rfl; exact absurd hb (by decide)),
    V1_ne m d b (by rintro rfl; exact absurd hb (by decide)) (by rintro rfl; exact absurd hb (by decide))]

end Cert.Proof.KernelIdeal

end
-- ==== Proof.IdealFrame.lean ====
/-
  What the index range of the tokens gives the run: every token word names a row of the table, so the whole program runs,
  leaves its arguments alone and ends with every semaphore at zero.
-/
module

public import Idealize.ShloMosaic.Lib.ReduceAll
public import proofs.«01_k».proof.Pre_in_range
public import proofs.«01_k».proof.Proof.Gen.Pre_in_range
public import proofs.«01_k».proof.Proof.IdealRun

@[expose] public section

noncomputable section

namespace Cert.Proof.KernelIdeal

open Cert.KernelIdeal Cert.KernelIdeal.Gen

open Idealize.ShloMosaic
open Idealize.ShloMosaic.ValueIdx
open Idealize.SL Idealize.SL.Sem

variable {F : FTy → Type} [FloatOps F] [Named F]

/-- A word that is at least 0 and below 100000 as a signed number is below 100000 as a natural number. -/
theorem word_range (v : BitVec 32) (h0 : IntOp.cmpi .sge v 0#32 = 1#1) (h1 : IntOp.cmpi .slt v 100000#32 = 1#1) :
    v.toNat < 100000 := by
  have h0' := IntOp.cmpi_sge.1 h0
  have h1' := IntOp.cmpi_slt.1 h1
  simp only [BitVec.toInt_eq_toNat_cond, BitVec.toNat_ofNat, Nat.reducePow, Nat.reduceMod] at h0' h1'
  have := v.isLt
  omega

/-- The printed index range, read at a token: each of the 204800 token words is below 100000. -/
theorem range_of_pre [Cert.Pre_in_range.Facts] (a0 : IVec Cert.Pre_in_range.S204800 32)
    (a1 : IVec Cert.Pre_in_range.S4096 32) (a2 : FVec F Cert.Pre_in_range.S100000x128 .f32)
    (a3 : FVec F Cert.Pre_in_range.S128x1024 .f32) (a4 : FVec F Cert.Pre_in_range.S1024 .f32)
    (a5 : FVec F Cert.Pre_in_range.S1024x128 .f32) (a6 : FVec F Cert.Pre_in_range.S128 .f32)
    (h : Cert.Pre_in_range.fn a0 a1 a2 a3 a4 a5 a6 = fun _ => 1#1) (i : Cert.Pre_in_range.S204800.Idx) :
    (a0 i).toNat < 100000 := by
  haveI : Subsingleton Cert.Pre_in_range.S_.Idx := ⟨fun a b => funext fun k => k.elim0⟩
  have e := congrFun h (fun k => k.elim0)
  dsimp only [Cert.Pre_in_range.fn] at e
  obtain ⟨e0, e1⟩ := (IntOp.andi_eq_one).1 e
  exact word_range _ (Host.reduce_andi_all _ _ _ _ _ e0 i) (Host.reduce_andi_all _ _ _ _ _ e1 i)

/-- The seven argument arrays after a run are those before it. -/
def ArgsKept (m : (ℓ : Loc nD τ sig) → Buf (Elt F) ℓ) (m₁ : (ℓ : Loc nD τ sig) → Buf (Elt F) ℓ) (c : Dev nD) : Prop :=
  m₁ ((c.tc : Thread nD τ).loc main_arg0) = m ((c.tc : Thread nD τ).loc main_arg0)
  ∧ m₁ ((c.tc : Thread nD τ).loc main_arg1) = m ((c.tc : Thread nD τ).loc main_arg1)
  ∧ m₁ ((c.tc : Thread nD τ).loc main_arg2) = m ((c.tc : Thread nD τ).loc main_arg2)
  ∧ m₁ ((c.tc : Thread nD τ).loc main_arg3) = m ((c.tc : Thread nD τ).loc main_arg3)
  ∧ m₁ ((c.tc : Thread nD τ).loc main_arg4) = m ((c.tc : Thread nD τ).loc main_arg4)
  ∧ m₁ ((c.tc : Thread nD τ).loc main_arg5) = m ((c.tc : Thread nD τ).loc main_arg5)
  ∧ m₁ ((c.tc : Thread nD τ).loc main_arg6) = m ((c.tc : Thread nD τ).loc main_arg6)

/-- The whole program's run where every token is below 100000: the result is `outOf`, the arguments are unchanged, and
    every semaphore is back at zero. -/
theorem run_out (m : (ℓ : Loc nD τ sig) → Buf (Elt F) ℓ) (ρ : Dev nD → PrngReg) [∀ e, Nonempty (Elt F e)]
    (hr : ∀ (d : Dev nD) (i : S204800.Idx), ((m (iLoc d) : IVec S204800 32) i).toNat < 100000) :
    θ_run (defs (F := F)) (threads (F := F)) ⟨m, fun _ => 0, ρ⟩ (fun r =>
      (∀ c : Dev nD, r.2.mem ((c.tc : Thread nD τ).loc main_v3) = outOf m c ∧ ArgsKept m r.2.mem c)
      ∧ r.2.sem = fun _ => 0) := by
  refine (θ_run (defs (F := F)) _ _).mono (fun r h => ⟨fun c => ?_, h.2⟩)
    (run_main m ρ (fun d n => hr d _))
  have hb := fun b hb => h.1 c b hb
  refine ⟨(hb main_v3 (by decide)).trans (V3_result m c), ?_⟩
  refine ⟨?_, ?_, ?_, ?_, ?_, ?_, ?_⟩
  · exact (hb main_arg0 (by decide)).trans (V3_arg m c _ (by decide))
  · exact (hb main_arg1 (by decide)).trans (V3_arg m c _ (by decide))
  · exact (hb main_arg2 (by decide)).trans (V3_arg m c _ (by decide))
  · exact (hb main_arg3 (by decide)).trans (V3_arg m c _ (by decide))
  · exact (hb main_arg4 (by decide)).trans (V3_arg m c _ (by decide))
  · exact (hb main_arg5 (by decide)).trans (V3_arg m c _ (by decide))
  · exact (hb main_arg6 (by decide)).trans (V3_arg m c _ (by decide))

end Cert.Proof.KernelIdeal

end
-- ==== Proof.Bags.lean ====
/-
  The mathematics of the mean of each bag, apart from any program. The offsets are 0, 1, …, 4095, so token `t` lies in bag
  `min t 4095`: bag `r < 4095` holds token `r` alone, and the last bag holds the 200705 tokens from 4095 on. Thirty-two
  sums of 6400 rows, less thirty-two sums of 128 rows, plus row 4095, are the last bag's sum.
-/
module

public import Idealize.ShloMosaic.Lib.IdealHost

@[expose] public section

noncomputable section

namespace Cert.Proof.Bags

open Idealize.ShloMosaic
open scoped BigOperators

/-- The two dense layers with the rectifier between them, of one row `x`. -/
def headRow (x : Fin 128 → EReal) (W1 : Fin 128 → Fin 1024 → EReal) (b1 : Fin 1024 → EReal) (W2 : Fin 1024 → Fin 128 → EReal)
    (b2 : Fin 128 → EReal) (n : Fin 128) : EReal :=
  (∑ j : Fin 1024, max (∑ k : Fin 128, x k * W1 k j + b1 j) 0 * W2 j n) + b2 n

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- `W` windows of `b` consecutive terms make up the first `b * W` terms. -/
theorem sum_windows (f : ℕ → ℝ) (b W : ℕ) :
    ∑ w ∈ Finset.range W, ∑ i ∈ Finset.range b, f (b * w + i) = ∑ t ∈ Finset.range (b * W), f t := by
  induction W with
  | zero => rfl
  | succ W ih => rw [Finset.sum_range_succ, ih, Nat.mul_succ, Finset.sum_range_add]

/-- The sum of the terms from 4095 on, among the first 204800. -/
def tailSum (f : ℕ → ℝ) : ℝ := ∑ t ∈ Finset.range 204800, if 4095 ≤ t then f t else 0

theorem tailSum_eq (f : ℕ → ℝ) : tailSum f = ∑ i ∈ Finset.range 200705, f (4095 + i) := by
  unfold tailSum
  rw [show (204800 : ℕ) = 4095 + 200705 from rfl, Finset.sum_range_add]
  rw [Finset.sum_eq_zero (fun t ht => if_neg (by have := Finset.mem_range.1 ht; omega)), zero_add]
  exact Finset.sum_congr rfl fun i _ => if_pos (by omega)

/-- All tokens' windows, less the first 4096 tokens' windows, plus token 4095: the tokens from 4095 on. -/
theorem windows_tail (f : ℕ → ℝ) :
    (∑ w ∈ Finset.range 32, (∑ i ∈ Finset.range 6400, f (6400 * w + i) - ∑ i ∈ Finset.range 128, f (128 * w + i))) + f 4095
      = tailSum f := by
  rw [Finset.sum_sub_distrib, sum_windows, sum_windows, tailSum_eq]
  rw [show 6400 * 32 = 4095 + 200705 from rfl, show 128 * 32 = 4095 + 1 from rfl, Finset.sum_range_add, Finset.sum_range_add,
    Finset.sum_range_one]
  simp only [Nat.add_zero]
  ring

/-- What the rows `g` of the tokens in bag `r` add up to, token `t` lying in bag `min t 4095`. -/
def bagSum (g : ℕ → EReal) (r : Fin 4096) : EReal := ∑ t : Fin 204800, if min t.val 4095 = r.val then g t.val else 0

/-- A bag before the last holds one token. -/
theorem bagSum_single (g : ℕ → EReal) (r : Fin 4096) (h : r.val ≠ 4095) : bagSum g r = g r.val := by
  have hr := r.isLt
  unfold bagSum
  rw [Finset.sum_eq_single (⟨r.val, by omega⟩ : Fin 204800)]
  · exact if_pos (by show min r.val 4095 = r.val; omega)
  · intro t _ ht
    have ht' : t.val ≠ r.val := fun e => ht (Fin.ext e)
    exact if_neg (by omega)
  · exact fun h => absurd (Finset.mem_univ _) h

/-- The last bag holds the tokens from 4095 on. -/
theorem bagSum_last (f : ℕ → ℝ) (r : Fin 4096) (h : r.val = 4095) : bagSum (fun t => (f t : EReal)) r = (tailSum f : EReal) := by
  unfold bagSum tailSum
  rw [coe_sum, ← Fin.sum_univ_eq_sum_range (fun t => (((if 4095 ≤ t then f t else 0 : ℝ)) : EReal)) 204800]
  refine Finset.sum_congr rfl fun t _ => ?_
  by_cases ht : 4095 ≤ t.val
  · rw [if_pos (by omega), if_pos ht]
  · rw [if_neg (by omega), if_neg ht, EReal.coe_zero]

/-- The last bag holds 200705 tokens. -/
theorem tailSum_one : tailSum (fun _ => 1) = 200705 := by
  rw [tailSum_eq, Finset.sum_const, Finset.card_range]
  norm_num

/-- The quotient of a bag's sum by its count, which is at least one. -/
def bagMean (g : ℕ → EReal) (r : Fin 4096) : EReal := Ideal.div (bagSum g r) (max (bagSum (fun _ => 1) r) 1)

/-- The mean of a bag before the last is its one token's row. -/
theorem bagMean_single (g : ℕ → EReal) (r : Fin 4096) (h : r.val ≠ 4095) : bagMean g r = g r.val := by
  unfold bagMean
  rw [bagSum_single _ _ h, bagSum_single _ _ h, max_self, ← EReal.coe_one, Ideal.div_coe one_ne_zero]
  rw [div_one, EReal.coe_one, mul_one]

/-- The mean of the last bag is its sum times 1/200705. -/
theorem bagMean_last (f : ℕ → ℝ) (r : Fin 4096) (h : r.val = 4095) :
    bagMean (fun t => (f t : EReal)) r = (tailSum f : EReal) * ((1 / 200705 : ℝ) : EReal) := by
  have h1 : bagSum (fun _ => 1) r = ((200705 : ℝ) : EReal) := by
    rw [← tailSum_one]
    exact bagSum_last (fun _ => 1) r h
  unfold bagMean
  rw [h1, bagSum_last _ _ h, max_eq_left (by exact_mod_cast (by norm_num : (1 : ℝ) ≤ 200705)), Ideal.div_coe (by norm_num)]

end Cert.Proof.Bags

end
-- ==== Proof.IdealMean.lean ====
/-
  The kernel's result over the extended reals, read at an index: row `r` is the two dense layers of row `r` of the bags'
  means, where row 4095 is the partial rows' sum plus row 4095, times the named constant.
-/
module

public import Idealize.ShloMosaic.Lib.Pointwise
public import Idealize.ShloMosaic.Lib.Pointwise.IndexBridge
public import Idealize.ShloMosaic.Lib.WordCmp
public import proofs.«01_k».proof.Proof.Bags
public import proofs.«01_k».proof.Proof.IdealFrame

@[expose] public section

set_option maxRecDepth 16384

noncomputable section

namespace Cert.Proof.KernelIdeal

open Cert.KernelIdeal Cert.KernelIdeal.Gen

open Idealize.ShloMosaic
open Idealize.SL Idealize.SL.Sem
open Cert.Proof.Bags

/-- One stored block at an index: the dense layers of the block's row, its row 255 replaced at the last grid point. -/
theorem pay_apply (i : grid1.Coords) (X : FVec Ideal S256x128 .f32) (Pt : FVec Ideal S32x128 .f32) (W1 : FVec Ideal S128x1024 .f32)
    (B1 : FVec Ideal S1x1024 .f32) (W2 : FVec Ideal S1024x128 .f32) (B2 : FVec Ideal S1x128 .f32) (a : Fin 256) (n : Fin 128) :
    k1_pay1 (F := Ideal) i X Pt W1 B1 W2 B2 (ix2 a n)
      = headRow (fun k => if a.val = 255 ∧ (i 0).val = 15
          then (∑ w : Fin 32, Pt (ix2 w k) + X (ix2 255 k)) * ((1 / 200705 : ℝ) : EReal) else X (ix2 a k))
        (fun k j => W1 (ix2 k j)) (fun j => B1 (ix2 0 j)) (fun j n => W2 (ix2 j n)) (fun n => B2 (ix2 0 n)) n := by
  have hi : (i 0).val < 16 := (i 0).isLt
  have hc : (if a.val = 255 ∧ (i 0).val = 15 then 1#1 else 0#1)
      = IntOp.andi (IntOp.cmpi .eq (BitVec.ofNat 32 a.val) 255#32) (Scalar.cmpi .eq (BitVec.ofNat 32 (i 0).val) 15#32) := by
    have e1 : IntOp.cmpi .eq (BitVec.ofNat 32 a.val) 255#32 = BitVec.ofBool (decide (a.val = 255)) :=
      WordCmp.cmpi_eq_ofNat (by have := a.isLt; omega) (by decide)
    have e2 : Scalar.cmpi .eq (BitVec.ofNat 32 (i 0).val) 15#32 = BitVec.ofBool (decide ((i 0).val = 15)) :=
      WordCmp.cmpi_eq_ofNat (by omega) (by decide)
    rw [e1, e2]
    by_cases ha : a.val = 255 <;> by_cases hb : (i 0).val = 15 <;> simp [ha, hb] <;> rfl
  have hn : Named.named (F := Ideal) (φ := .f32) κ "inv_count" 0x36A72ECF#32 = ((1 / 200705 : ℝ) : EReal) :=
    IdealRules.named_const.ideal_named_scalar _ _ _ _ rfl
  pointwise [k1_pay1, headRow]
  rw [← hc, hn]
  by_cases h : a.val = 255 ∧ (i 0).val = 15
  · simp only [if_pos h]
    rfl
  · simp only [if_neg h]
    rfl

/-- The grid's points are numbered by their one coordinate. -/
theorem coords_0 (t : Fin grid1.N) : ((grid1.coords t) 0).val = t.val := (by decide +kernel : ∀ t : Fin grid1.N, ((grid1.coords t) 0).val = t.val) t

/-- The kernel's mean of bag `r`. -/
def keptRow (E : S4096x128.Idx → EReal) (Pt : S32x128.Idx → EReal) (r : Fin 4096) (k : Fin 128) : EReal :=
  if r.val = 4095 then (∑ w : Fin 32, Pt (ix2 w k) + E (ix2 (4095 : Fin 4096) k)) * ((1 / 200705 : ℝ) : EReal) else E (ix2 r k)

/-- The kernel's result from the SparseCore call's two results. -/
theorem mlpOut_apply (E : S4096x128.Idx → EReal) (Pt : S32x128.Idx → EReal) (W1 : S128x1024.Idx → EReal)
    (B1 : S1x1024.Idx → EReal) (W2 : S1024x128.Idx → EReal) (B2 : S1x128.Idx → EReal) (r : Fin 4096) (n : Fin 128) :
    mlpOut (F := Ideal) E Pt W1 B1 W2 B2 (ix2 r n)
      = headRow (keptRow E Pt r)
        (fun k j => W1 (ix2 k j)) (fun j => B1 (ix2 0 j)) (fun j n => W2 (ix2 j n)) (fun n => B2 (ix2 0 n)) n := by
  unfold mlpOut
  have hr := r.isLt
  refine (congrArg (k1_pay1 (F := Ideal) _ _ Pt W1 B1 W2 B2)
    (ix2_eq_valueIdx (⟨r.val % 256, Nat.mod_lt _ (by decide)⟩ : Fin 256) n).symm).trans ?_
  refine (pay_apply _ _ _ _ _ _ _ _ _).trans ?_
  refine congrArg (fun x => headRow x _ _ _ _ n) (funext fun k => ?_)
  rw [coords_0]
  show (if r.val % 256 = 255 ∧ r.val / 256 = 15 then _ else _) = _
  unfold keptRow
  by_cases h : r.val = 4095
  · rw [if_pos h, if_pos (by omega)]
    refine congrArg (fun e => (∑ w : Fin 32, Pt (ix2 w k) + e) * ((1 / 200705 : ℝ) : EReal)) ?_
    refine (congrArg E (ix2_eq_valueIdx _ _).symm).trans (congrArg E (congrArg (fun q => ix2 q k) (Fin.ext ?_)))
    show 256 * (r.val / 256) + 255 = 4095
    omega
  · rw [if_neg h, if_neg (by omega)]
    refine (congrArg E (ix2_eq_valueIdx _ _).symm).trans (congrArg E (congrArg (fun q => ix2 q k) (Fin.ext ?_)))
    show 256 * (r.val / 256) + r.val % 256 = r.val
    omega

/-- The running total of rows that are real numbers. -/
theorem sumTo_real (R : ℕ → Fin 128 → EReal) (f : ℕ → ℝ) (c : Fin 128) (h : ∀ n, R n c = (f n : EReal)) (n : ℕ) :
    sumTo (F := Ideal) R n c = ((∑ i ∈ Finset.range n, f i : ℝ) : EReal) := by
  induction n with
  | zero => exact Ideal.ofBits_zero_f32.trans EReal.coe_zero.symm
  | succ n ih =>
    show sumTo (F := Ideal) R n c + R n c = _
    rw [ih, h, Finset.sum_range_succ, EReal.coe_add]

/-- A tile's difference, where the table's entries are real numbers. -/
theorem diffOf_real (d : Dev nD) (I : S204800.Idx → BitVec 32) (Tb : S100000x128.Idx → EReal) (f : ℕ → ℝ) (k : Fin 128)
    (hf : ∀ t, rowAt (F := Ideal) Tb (tok I t) k = (f t : EReal)) (w : ℕ) :
    diffOf (F := Ideal) d I Tb w k
      = ((∑ i ∈ Finset.range 6400, f (6400 * w + i) - ∑ i ∈ Finset.range 128, f (128 * w + i) : ℝ) : EReal) := by
  have e1 := sumTo_real (tokRows (F := Ideal) I Tb (6400 * w)) (fun n => f (6400 * w + n)) k (fun n => hf _)
  have e2 := sumTo_real (tokRows (F := Ideal) I Tb (128 * w)) (fun n => f (128 * w + n)) k (fun n => hf _)
  unfold diffOf
  rw [e1, e2, EReal.coe_sub]
  rfl

/-- The kernel's mean of a bag is the bag's sum over its count, where the table's entries are real numbers. -/
theorem keptRow_eq (d : Dev nD) (I : S204800.Idx → BitVec 32) (Tb : S100000x128.Idx → EReal)
    (hT : ∀ i, ∃ x : ℝ, Tb i = (x : EReal)) (r : Fin 4096) (k : Fin 128) :
    keptRow (rowsOut (F := Ideal) d I Tb) (partOut (F := Ideal) d I Tb) r k
      = bagMean (fun t => rowAt (F := Ideal) Tb (tok I t) k) r := by
  unfold keptRow
  by_cases h : r.val = 4095
  · obtain ⟨f, hf⟩ : ∃ f : ℕ → ℝ, ∀ t, rowAt (F := Ideal) Tb (tok I t) k = (f t : EReal) :=
      ⟨fun t => (hT _).choose, fun t => (hT _).choose_spec⟩
    rw [if_pos h, show (fun t => rowAt (F := Ideal) Tb (tok I t) k) = fun t => (f t : EReal) from funext hf, bagMean_last f r h,
      ← windows_tail f, EReal.coe_add, coe_sum]
    refine congrArg (fun e => e * ((1 / 200705 : ℝ) : EReal)) (congrArg₂ (· + ·) ?_ (hf 4095))
    rw [← Fin.sum_univ_eq_sum_range (fun w => ((∑ i ∈ Finset.range 6400, f (6400 * w + i)
        - ∑ i ∈ Finset.range 128, f (128 * w + i) : ℝ) : EReal)) 32]
    exact Finset.sum_congr rfl fun w _ => diffOf_real d I Tb f k hf w.val
  · rw [if_neg h, bagMean_single _ _ h]
    rfl

end Cert.Proof.KernelIdeal

end
-- ==== Proof.RefBags.lean ====
/-
  The reference over the extended reals, read at an index: row `r` of its result is the two dense layers of the mean of
  bag `r`, where the offsets are 0, 1, …, 4095 and each token names a row of the table.
-/
module

public import Idealize.ShloMosaic.Lib.Routing.Ops
public import Idealize.ShloMosaic.Lib.Routing.OpsPair
public import Idealize.ShloMosaic.Lib.ReduceAll
public import Idealize.ShloMosaic.Lib.WordCmp
public import Idealize.ShloMosaic.Lib.IdealHost
public import Idealize.ShloMosaic.Lib.ValueIdxRank1
public import proofs.«01_k».proof.Proof.Bags
public import proofs.«01_k».proof.Proof.Gen.ReferenceIdeal.Read

@[expose] public section

set_option maxRecDepth 16384

noncomputable section

namespace Cert.Proof.Reference

open Cert.ReferenceIdeal Cert.ReferenceIdeal.Gen Cert.ReferenceIdeal.Read

open Idealize.ShloMosaic
open Idealize.ShloMosaic.Routing
open Cert.Proof.Bags

section Segments

variable (x1 : IVec S4096 32) (hx1 : ∀ q : Fin 4096, x1 (ValueIdx.ix1 q) = BitVec.ofNat 32 q.val)

include hx1 in
/-- The offsets at most `t` are `0, …, t`, or all 4096; so token `t` lies in bag `min t 4095`. -/
theorem segment_eq (t : Fin 204800) :
    val_main_v10 (F := Ideal) x1 (ValueIdx.ix1 t) = BitVec.ofNat 32 (min t.val 4095) := by
  have ht := t.isLt
  have hmask : ∀ q : Fin 4096, val_main_v6 (F := Ideal) x1 (ValueIdx.ix2 t q) = 1#1 ↔ q.val ≤ t.val := fun q => by
    have hq := q.isLt
    rw [val_main_v6_apply, val_main_v4_apply, val_main_v2_apply, val_main_v5_apply, val_main_v3_apply, val_main_v1_apply]
    have e1 : x1 (idx_main_v2 (idx_main_v4 (ValueIdx.ix2 t q))) = BitVec.ofNat 32 q.val :=
      (congrArg x1 (show idx_main_v2 (idx_main_v4 (ValueIdx.ix2 t q)) = ValueIdx.ix1 q from
        funext fun a => match a with | ⟨0, _⟩ => rfl)).trans (hx1 q)
    rw [e1]
    show IntOp.cmpi .sle (BitVec.ofNat 32 q.val) (BitVec.ofNat 32 t.val) = 1#1 ↔ _
    rw [IntOp.cmpi_sle, BitVec.toInt_eq_toNat_cond, BitVec.toInt_eq_toNat_cond, BitVec.toNat_ofNat, BitVec.toNat_ofNat]
    omega
  have hcount : Nat.count (fun q => q ≤ t.val) 4096 = min t.val 4095 + 1 := by
    rw [Nat.count_eq_card_filter_range]
    have : (Finset.range 4096).filter (fun q => q ≤ t.val) = Finset.range (min t.val 4095 + 1) := by
      ext q
      rw [Finset.mem_filter, Finset.mem_range, Finset.mem_range]
      omega
    rw [this, Finset.card_range]
  have e8 : val_main_v8 (F := Ideal) x1 (ValueIdx.ix1 t) = BitVec.ofNat 32 (min t.val 4095 + 1) := by
    rw [← hcount]
    exact reduce_count (by decide) (val_main_v6 (F := Ideal) x1) _ _ _ t (fun q => q ≤ t.val) hmask
  rw [val_main_v10_apply, e8, val_main_v9_apply, val_main_c_0_apply]
  apply BitVec.eq_of_toNat_eq
  show (BitVec.ofNat 32 (min t.val 4095 + 1) - 1#32).toNat = _
  rw [BitVec.toNat_sub, BitVec.toNat_ofNat, BitVec.toNat_ofNat]
  show _ = _
  simp only [BitVec.toNat_ofNat]
  omega

end Segments

/-- The start of update `j` of a scatter by one index word each, on axis 0: the word at `j`'s leading coordinate, read signed. -/
theorem start_lead {s u : Shape} {U : Nat} (d : ScatterDims s (shape2 U 1) u) (a : Fin s.rank) (hsd : d.scatterDimsToOperandDims = [a])
    (hivd : d.indexVectorDim = 1) (j : u.Idx) (t : Fin U)
    (hj : ∀ q ∈ d.uScatter, (j q).val = t.val) (idx : IVec (shape2 U 1) 32) :
    d.start j idx a = (idx (ValueIdx.ix2 t (0 : Fin 1))).toInt := by
  have hm : a ∈ d.scatterDimsToOperandDims := by rw [hsd]; exact List.mem_singleton.2 rfl
  unfold ScatterDims.start
  rw [dif_pos hm]
  refine congrArg (fun k => (idx k).toInt) (funext fun b => Fin.ext ?_)
  match b with
  | ⟨0, _⟩ =>
    unfold ScatterDims.siIdx
    rw [dif_neg (by rw [hivd]; exact Nat.zero_ne_one)]
    unfold ScatterDims.siCoord
    simp only [Fin.val_cast]
    exact hj _ (List.getElem_mem _)
  | ⟨1, _⟩ =>
    unfold ScatterDims.siIdx
    rw [dif_pos (by rw [hivd])]
    show List.idxOf a d.scatterDimsToOperandDims = 0
    rw [hsd]; simp

/-- An inserted axis has no window coordinate. -/
theorem window_inserted {s si u : Shape} (d : ScatterDims s si u) (a : Fin s.rank) (hiw : a ∈ d.insertedWindowDims) (j : u.Idx) :
    d.window j a = 0 := by
  unfold ScatterDims.window
  rw [dif_neg fun h => (of_decide_eq_true (List.mem_filter.1 h).2) hiw]

/-- Where an update of a scatter of `U` rows into a table of rows lands: at the row that the index word names, in its own column. -/
theorem lands_rows {R C U : Nat} (d : ScatterDims (shape2 R C) (shape2 U 1) (shape2 U C)) (huw : d.updateWindowDims = [1])
    (hiw : d.insertedWindowDims = [0]) (hsd : d.scatterDimsToOperandDims = [0]) (hivd : d.indexVectorDim = 1)
    (idx : IVec (shape2 U 1) 32) (t : Fin U) (y : Fin C) (r : Fin R) (c : Fin C) :
    d.resultIdx? (ValueIdx.ix2 t y) idx = some (ValueIdx.ix2 r c)
      ↔ (idx (ValueIdx.ix2 t (0 : Fin 1))).toInt = (r.val : Int) ∧ y = c := by
  have hs0 : d.start (ValueIdx.ix2 t y) idx 0 = (idx (ValueIdx.ix2 t (0 : Fin 1))).toInt :=
    start_lead d 0 hsd hivd _ t (fun q hq => by
      have hu : d.uScatter = [0] := by
        show (shape2 U C).kept d.updateWindowDims = _
        rw [huw]
        rfl
      rw [hu] at hq
      obtain rfl := List.mem_singleton.1 hq
      rfl) idx
  have hs1 : d.start (ValueIdx.ix2 t y) idx 1 = 0 := by
    unfold ScatterDims.start
    rw [dif_neg fun h => by rw [hsd] at h; exact absurd (List.mem_singleton.1 h) (by decide : (1 : Fin 2) ≠ 0)]
  have hw0 : d.window (ValueIdx.ix2 t y) 0 = 0 := window_inserted d 0 (by rw [hiw]; exact List.mem_singleton.2 rfl) _
  have hw1 : d.window (ValueIdx.ix2 t y) 1 = y.val := by
    have hkept : d.sKept = [1] := by
      show (shape2 R C).kept d.insertedWindowDims = _
      rw [hiw]
      rfl
    unfold ScatterDims.window
    rw [dif_pos (by rw [hkept]; exact List.mem_singleton.2 rfl)]
    have e : ∀ q ∈ d.updateWindowDims, (ValueIdx.ix2 t y q).val = y.val := fun q hq => by
      rw [huw] at hq
      obtain rfl := List.mem_singleton.1 hq
      rfl
    exact e _ (List.getElem_mem _)
  rw [resultIdx?_ix2, hs0, hs1, hw0, hw1, Fin.ext_iff]
  omega

/-- Where an update of a scatter of `U` numbers into a vector lands: at the entry that the index word names. -/
theorem lands_entry {R U : Nat} (d : ScatterDims (shape1 R) (shape2 U 1) (shape1 U)) (hiw : d.insertedWindowDims = [0])
    (hsd : d.scatterDimsToOperandDims = [0]) (hivd : d.indexVectorDim = 1)
    (idx : IVec (shape2 U 1) 32) (t : Fin U) (r : Fin R) :
    d.resultIdx? (ValueIdx.ix1 t) idx = some (ValueIdx.ix1 r) ↔ (idx (ValueIdx.ix2 t (0 : Fin 1))).toInt = (r.val : Int) := by
  have hs0 : d.start (ValueIdx.ix1 t) idx 0 = (idx (ValueIdx.ix2 t (0 : Fin 1))).toInt :=
    start_lead d 0 hsd hivd _ t (fun q _ => by
      obtain rfl : q = (0 : Fin 1) := Subsingleton.elim _ _
      rfl) idx
  have hw0 : d.window (ValueIdx.ix1 t) 0 = 0 := window_inserted d 0 (by rw [hiw]; exact List.mem_singleton.2 rfl) _
  rw [resultIdx?_ix1, hs0, hw0]
  omega

/-- A scatter that adds `U` rows to a table of rows, read at an entry: the table's entry plus the rows that the words name. -/
theorem scatterAdd_rows {R C U : Nat} (d : ScatterDims (shape2 R C) (shape2 U 1) (shape2 U C)) (huw : d.updateWindowDims = [1])
    (hiw : d.insertedWindowDims = [0]) (hsd : d.scatterDimsToOperandDims = [0]) (hivd : d.indexVectorDim = 1)
    (x : FVec Ideal (shape2 R C) .f32) (idx : IVec (shape2 U 1) 32) (upd : FVec Ideal (shape2 U C) .f32) (r : Fin R) (c : Fin C) :
    Host.scatterAdd (F := Ideal) d x idx upd (ValueIdx.ix2 r c)
      = x (ValueIdx.ix2 r c)
        + ∑ t : Fin U, if (idx (ValueIdx.ix2 t (0 : Fin 1))).toInt = (r.val : Int) then upd (ValueIdx.ix2 t c) else 0 := by
  unfold Host.scatterAdd
  rw [Ideal.hostScatterAdd_def]
  unfold Ideal.hostScatterAdd
  rw [Finset.sum_filter, ValueIdx.sum_idx2]
  refine congrArg (_ + ·) (Finset.sum_congr rfl fun t _ => ?_)
  rw [Finset.sum_eq_single c]
  · refine if_congr ?_ rfl rfl
    rw [lands_rows d huw hiw hsd hivd]
    exact and_iff_left rfl
  · intro y _ hy
    refine if_neg fun h => hy ?_
    rw [lands_rows d huw hiw hsd hivd] at h
    exact h.2
  · intro h
    exact absurd (Finset.mem_univ _) h

/-- A scatter that adds `U` numbers to a vector, read at an entry. -/
theorem scatterAdd_entries {R U : Nat} (d : ScatterDims (shape1 R) (shape2 U 1) (shape1 U)) (hiw : d.insertedWindowDims = [0])
    (hsd : d.scatterDimsToOperandDims = [0]) (hivd : d.indexVectorDim = 1)
    (x : FVec Ideal (shape1 R) .f32) (idx : IVec (shape2 U 1) 32) (upd : FVec Ideal (shape1 U) .f32) (r : Fin R) :
    Host.scatterAdd (F := Ideal) d x idx upd (ValueIdx.ix1 r)
      = x (ValueIdx.ix1 r)
        + ∑ t : Fin U, if (idx (ValueIdx.ix2 t (0 : Fin 1))).toInt = (r.val : Int) then upd (ValueIdx.ix1 t) else 0 := by
  unfold Host.scatterAdd
  rw [Ideal.hostScatterAdd_def]
  unfold Ideal.hostScatterAdd
  rw [Finset.sum_filter, ← Equiv.sum_comp ValueIdx.idxEquiv1.symm]
  refine congrArg (_ + ·) (Finset.sum_congr rfl fun t _ => ?_)
  exact if_congr (lands_entry d hiw hsd hivd idx t r) rfl rfl

/-- The word of a bag number, read signed. -/
theorem bag_word (n r : Nat) : (BitVec.ofNat 32 (min n 4095)).toInt = (r : Int) ↔ min n 4095 = r := by
  rw [BitVec.toInt_eq_toNat_cond, BitVec.toNat_ofNat]
  omega

section Sums

variable (x0 : IVec S204800 32) (x1 : IVec S4096 32) (x2 : FVec Ideal S100000x128 .f32)
  (hx1 : ∀ q : Fin 4096, x1 (ValueIdx.ix1 q) = BitVec.ofNat 32 q.val)

include hx1 in
theorem row_word (t : Fin 204800) : val_main_v12 (F := Ideal) x1 (ValueIdx.ix2 t (0 : Fin 1)) = BitVec.ofNat 32 (min t.val 4095) := by
  rw [val_main_v12_apply]
  exact (congrArg (val_main_v10 (F := Ideal) x1) (show idx_main_v12 (ValueIdx.ix2 t (0 : Fin 1)) = ValueIdx.ix1 t from
    funext fun a => match a with | ⟨0, _⟩ => rfl)).trans (segment_eq x1 hx1 t)

include hx1 in
theorem count_word (t : Fin 204800) : val_main_v16 (F := Ideal) x1 (ValueIdx.ix2 t (0 : Fin 1)) = BitVec.ofNat 32 (min t.val 4095) := by
  rw [val_main_v16_apply]
  exact (congrArg (val_main_v10 (F := Ideal) x1) (show idx_main_v16 (ValueIdx.ix2 t (0 : Fin 1)) = ValueIdx.ix1 t from
    funext fun a => match a with | ⟨0, _⟩ => rfl)).trans (segment_eq x1 hx1 t)

include hx1 in
/-- The reference's bag sums. -/
theorem sums_apply (g : ℕ → EReal) (r : Fin 4096) (c : Fin 128)
    (hg : ∀ t : Fin 204800, val_main_v0 (F := Ideal) x0 x2 (ValueIdx.ix2 t c) = g t.val) :
    val_main_v13 (F := Ideal) x0 x1 x2 (ValueIdx.ix2 r c) = bagSum g r := by
  have e0 : val_main_v11 (F := Ideal) (ValueIdx.ix2 r c) = (0 : EReal) := by
    rw [val_main_v11_apply, val_main_cst_apply]
    exact Ideal.ofBits_zero_f32
  have hw := row_word x1 hx1
  unfold val_main_v13
  generalize val_main_v0 (F := Ideal) x0 x2 = U at hg ⊢
  generalize val_main_v12 (F := Ideal) x1 = W at hw ⊢
  generalize val_main_v11 (F := Ideal) = Z at e0 ⊢
  refine (scatterAdd_rows _ rfl rfl rfl rfl Z W U r c).trans ?_
  rw [e0, zero_add]
  unfold bagSum
  refine Finset.sum_congr rfl fun t _ => if_congr ?_ (hg t) rfl
  rw [hw t, bag_word]

include hx1 in
/-- The reference's bag counts. -/
theorem counts_apply (r : Fin 4096) : val_main_v17 (F := Ideal) x1 (ValueIdx.ix1 r) = bagSum (fun _ => 1) r := by
  have e0 : val_main_v15 (F := Ideal) (ValueIdx.ix1 r) = (0 : EReal) := by
    rw [val_main_v15_apply, val_main_cst_2_apply]
    exact Ideal.ofBits_zero_f32
  have hg : ∀ t : Fin 204800, val_main_v14 (F := Ideal) (ValueIdx.ix1 t) = (1 : EReal) := fun t => by
    rw [val_main_v14_apply, val_main_cst_1_apply]
    exact Ideal.ofBits_one_f32
  have hw := count_word x1 hx1
  unfold val_main_v17
  generalize val_main_v14 (F := Ideal) = U at hg ⊢
  generalize val_main_v16 (F := Ideal) x1 = W at hw ⊢
  generalize val_main_v15 (F := Ideal) = Z at e0 ⊢
  refine (scatterAdd_entries _ rfl rfl rfl Z W U r).trans ?_
  rw [e0, zero_add]
  unfold bagSum
  refine Finset.sum_congr rfl fun t _ => if_congr ?_ (hg t) rfl
  rw [hw t, bag_word]

include hx1 in
/-- The reference's bag means. -/
theorem mean_apply (g : ℕ → EReal) (r : Fin 4096) (c : Fin 128)
    (hg : ∀ t : Fin 204800, val_main_v0 (F := Ideal) x0 x2 (ValueIdx.ix2 t c) = g t.val) :
    val_main_v22 (F := Ideal) x0 x1 x2 (ValueIdx.ix2 r c) = bagMean g r := by
  rw [val_main_v22_apply, sums_apply x0 x1 x2 hx1 g r c hg, val_main_v21_apply, val_main_v20_apply, val_main_v19_apply,
    val_main_v18_apply, val_main_cst_3_apply]
  unfold bagMean
  refine congrArg (Ideal.div (bagSum g r)) (congrArg₂ max ?_ Ideal.ofBits_one_f32)
  exact (congrArg (val_main_v17 (F := Ideal) x1) (show idx_main_v20 (idx_main_v21 (ValueIdx.ix2 r c)) = ValueIdx.ix1 r from
    funext fun a => match a with | ⟨0, _⟩ => rfl)).trans (counts_apply x1 hx1 r)

end Sums

end Cert.Proof.Reference

end
-- ==== Proof.RefRows.lean ====
/-
  The reference over the extended reals, read at an index: the rows that its tokens name, and the two dense layers of the
  bags' means.
-/
module

public import Idealize.ShloMosaic.Lib.Routing.Ops
public import Idealize.ShloMosaic.Lib.Routing.OpsPair
public import Idealize.ShloMosaic.Lib.ReduceAll
public import Idealize.ShloMosaic.Lib.WordCmp
public import Idealize.ShloMosaic.Lib.IdealHost
public import proofs.«01_k».proof.Proof.RefBags

@[expose] public section

set_option maxRecDepth 16384

noncomputable section

namespace Cert.Proof.Reference

open Cert.ReferenceIdeal Cert.ReferenceIdeal.Gen Cert.ReferenceIdeal.Read

open Idealize.ShloMosaic
open Idealize.ShloMosaic.Routing
open Cert.Proof.Bags

section Rows

variable (x0 : IVec S204800 32) (x2 : FVec Ideal S100000x128 .f32) (hx0 : ∀ i, (x0 i).toNat < 100000)

include hx0 in
/-- A token's word is not negative, so it names its row as it is. -/
theorem word_apply (j : S204800x1.Idx) : val_main_call0_v5 (F := Ideal) x0 j = x0 (idx_main_call0_v5 j) := by
  have h := hx0 (idx_main_call0_v5 j)
  rw [val_main_call0_v5_apply, val_main_call0_v4_apply, val_main_call0_v1_apply, val_main_call0_v0_apply, val_main_call0_c_apply]
  exact wrap_of_lt _ _ (by omega)

include hx0 in
/-- Every token's word is in the table's range. -/
theorem mask_apply (j : S204800.Idx) : val_main_call0_v12 (F := Ideal) x0 j = 1#1 := by
  have hx : ∀ i, val_main_call0_v11 (F := Ideal) x0 i = 1#1 := fun i => by
    have h := hx0 (idx_main_call0_v5 i)
    rw [val_main_call0_v11_apply, val_main_call0_v7_apply, val_main_call0_v10_apply, word_apply x0 hx0, val_main_call0_v6_apply,
      val_main_call0_c_2_apply, val_main_call0_v9_apply, val_main_call0_v8_apply, val_main_call0_c_1_apply]
    generalize x0 (idx_main_call0_v5 i) = v at h
    refine IntOp.andi_eq_one.2 ⟨IntOp.cmpi_sge.2 ?_, IntOp.cmpi_sle.2 ?_⟩
    · simp only [BitVec.toInt_eq_toNat_cond, BitVec.toNat_ofNat, Nat.reducePow, Nat.reduceMod]
      omega
    · simp only [BitVec.toInt_eq_toNat_cond, BitVec.toNat_ofNat, Nat.reducePow, Nat.reduceMod]
      omega
  unfold val_main_call0_v12
  generalize val_main_call0_v11 (F := Ideal) x0 = y at hx
  exact Host.reduce_andi_one y _ _ _ _ rfl hx

include hx0 in
/-- Row `t` of the gathered rows is the table's row that token `t` names. -/
theorem rows_apply (t : Fin 204800) (c : Fin 128) :
    val_main_v0 (F := Ideal) x0 x2 (ValueIdx.ix2 t c)
      = x2 (ValueIdx.ix2 (⟨(x0 (ValueIdx.ix1 t)).toNat, hx0 _⟩ : Fin 100000) c) := by
  have hb : val_main_call0_v5 (F := Ideal) x0 (ValueIdx.ix2 t (0 : Fin 1))
      = BitVec.ofNat 32 (⟨(x0 (ValueIdx.ix1 t)).toNat, hx0 _⟩ : Fin 100000).val := by
    rw [word_apply x0 hx0]
    refine (congrArg x0 (show idx_main_call0_v5 (ValueIdx.ix2 t (0 : Fin 1)) = ValueIdx.ix1 t from
      funext fun a => match a with | ⟨0, _⟩ => rfl)).trans ?_
    exact ((BitVec.ofNat_toNat 32 _).trans (BitVec.setWidth_eq _)).symm
  have hm : val_main_call0_v14 (F := Ideal) x0 (ValueIdx.ix2 t c) = 1#1 := by
    rw [val_main_call0_v14_apply]
    exact mask_apply x0 hx0 _
  rw [val_main_v0_apply, hm]
  refine Eq.trans (if_pos rfl) ?_
  unfold val_main_call0_v13
  generalize val_main_call0_v5 (F := Ideal) x0 = W at hb
  exact gather_row _ rfl rfl rfl rfl rfl x2 W t c _ hb (by norm_num)

end Rows

section Head

variable (x0 : IVec S204800 32) (x1 : IVec S4096 32) (x2 : FVec Ideal S100000x128 .f32) (x3 : FVec Ideal S128x1024 .f32)
  (x4 : FVec Ideal S1024 .f32) (x5 : FVec Ideal S1024x128 .f32) (x6 : FVec Ideal S128 .f32)

/-- The first layer at row `r`, from the bags' means at that row. -/
theorem hidden_apply (M : Fin 128 → EReal) (r : Fin 4096)
    (hM : ∀ k, val_main_v22 (F := Ideal) x0 x1 x2 (ValueIdx.ix2 r k) = M k) (j : Fin 1024) :
    val_main_v27 (F := Ideal) x0 x1 x2 x3 x4 (ValueIdx.ix2 r j)
      = max (∑ k : Fin 128, M k * x3 (ValueIdx.ix2 k j) + x4 (ValueIdx.ix1 j)) 0 := by
  have hsum : ∑ k : Fin 128, val_main_v22 (F := Ideal) x0 x1 x2 (lidx_main_v23 (ValueIdx.ix2 r j) k) * x3 (ridx_main_v23 (ValueIdx.ix2 r j) k)
      = ∑ k : Fin 128, M k * x3 (ValueIdx.ix2 k j) := by
    refine Finset.sum_congr rfl fun k _ => congrArg₂ (· * ·) ?_ ?_
    · exact (congrArg (val_main_v22 (F := Ideal) x0 x1 x2) (show lidx_main_v23 (ValueIdx.ix2 r j) k = ValueIdx.ix2 r k from
        funext fun a => match a with | ⟨0, _⟩ => rfl | ⟨1, _⟩ => rfl)).trans (hM k)
    · exact congrArg x3 (show ridx_main_v23 (ValueIdx.ix2 r j) k = ValueIdx.ix2 k j from
        funext fun a => match a with | ⟨0, _⟩ => rfl | ⟨1, _⟩ => rfl)
  have hb : x4 (idx_main_v24 (idx_main_v25 (ValueIdx.ix2 r j))) = x4 (ValueIdx.ix1 j) :=
    congrArg x4 (show idx_main_v24 (idx_main_v25 (ValueIdx.ix2 r j)) = ValueIdx.ix1 j from
      funext fun a => match a with | ⟨0, _⟩ => rfl)
  rw [val_main_v27_apply, val_main_v26_apply, val_main_v23_apply, hsum, val_main_v25_apply, val_main_v24_apply, hb,
    val_main_call1_v0_apply, val_main_call1_cst_apply]
  exact congrArg (max _) Ideal.ofBits_zero_f32

/-- Row `r` of the reference's result is the two dense layers of the bags' mean at that row. -/
theorem head_apply (M : Fin 128 → EReal) (r : Fin 4096)
    (hM : ∀ k, val_main_v22 (F := Ideal) x0 x1 x2 (ValueIdx.ix2 r k) = M k) (n : Fin 128) :
    val_main_v31 (F := Ideal) x0 x1 x2 x3 x4 x5 x6 (ValueIdx.ix2 r n)
      = headRow M (fun k j => x3 (ValueIdx.ix2 k j)) (fun j => x4 (ValueIdx.ix1 j)) (fun j n => x5 (ValueIdx.ix2 j n))
        (fun n => x6 (ValueIdx.ix1 n)) n := by
  have hsum : ∑ j : Fin 1024, val_main_v27 (F := Ideal) x0 x1 x2 x3 x4 (lidx_main_v28 (ValueIdx.ix2 r n) j) * x5 (ridx_main_v28 (ValueIdx.ix2 r n) j)
      = ∑ j : Fin 1024, max (∑ k : Fin 128, M k * x3 (ValueIdx.ix2 k j) + x4 (ValueIdx.ix1 j)) 0 * x5 (ValueIdx.ix2 j n) := by
    refine Finset.sum_congr rfl fun j _ => congrArg₂ (· * ·) ?_ ?_
    · exact (congrArg (val_main_v27 (F := Ideal) x0 x1 x2 x3 x4) (show lidx_main_v28 (ValueIdx.ix2 r n) j = ValueIdx.ix2 r j from
        funext fun a => match a with | ⟨0, _⟩ => rfl | ⟨1, _⟩ => rfl)).trans (hidden_apply x0 x1 x2 x3 x4 M r hM j)
    · exact congrArg x5 (show ridx_main_v28 (ValueIdx.ix2 r n) j = ValueIdx.ix2 j n from
        funext fun a => match a with | ⟨0, _⟩ => rfl | ⟨1, _⟩ => rfl)
  have hb : x6 (idx_main_v29 (idx_main_v30 (ValueIdx.ix2 r n))) = x6 (ValueIdx.ix1 n) :=
    congrArg x6 (show idx_main_v29 (idx_main_v30 (ValueIdx.ix2 r n)) = ValueIdx.ix1 n from
      funext fun a => match a with | ⟨0, _⟩ => rfl)
  rw [val_main_v31_apply, val_main_v28_apply, hsum, val_main_v30_apply, val_main_v29_apply, hb]
  rfl

/-- Row `r` of the reference's result: the two dense layers of the mean of bag `r`, where the offsets are 0, 1, …, 4095 and
    each token names a row of the table. -/
theorem out_apply (hx0 : ∀ i, (x0 i).toNat < 100000) (hx1 : ∀ q : Fin 4096, x1 (ValueIdx.ix1 q) = BitVec.ofNat 32 q.val)
    (g : ℕ → Fin 128 → EReal)
    (hg : ∀ (t : Fin 204800) (k : Fin 128), x2 (ValueIdx.ix2 (⟨(x0 (ValueIdx.ix1 t)).toNat, hx0 _⟩ : Fin 100000) k) = g t.val k)
    (r : Fin 4096) (n : Fin 128) :
    val_main_v31 (F := Ideal) x0 x1 x2 x3 x4 x5 x6 (ValueIdx.ix2 r n)
      = headRow (fun k => bagMean (fun t => g t k) r) (fun k j => x3 (ValueIdx.ix2 k j)) (fun j => x4 (ValueIdx.ix1 j))
        (fun j n => x5 (ValueIdx.ix2 j n)) (fun n => x6 (ValueIdx.ix1 n)) n :=
  head_apply x0 x1 x2 x3 x4 x5 x6 _ r (fun k => mean_apply x0 x1 x2 hx1 (fun t => g t k) r k
    (fun t => (rows_apply x0 x2 hx0 t k).trans (hg t k))) n

end Head

end Cert.Proof.Reference

end
-- ==== Proof.IdealValue.lean ====
/-
  The kernel's result is the reference's, where the inputs are as `drawn` says: the tokens name rows of the table, the
  offsets are 0, 1, …, 4095, and the table's entries are real numbers.
-/
module

public import Idealize.ShloMosaic.Lib.ReduceAll
public import Idealize.ShloMosaic.Lib.Pipeline.Value
public import Idealize.ShloMosaic.Lib.Pointwise.IndexBridge
public import proofs.«01_k».proof.Pre_drawn
public import proofs.«01_k».proof.Proof.Gen.Pre_drawn
public import proofs.«01_k».proof.Proof.IdealFrame
public import proofs.«01_k».proof.Proof.IdealMean
public import proofs.«01_k».proof.Proof.RefRows

@[expose] public section

set_option maxRecDepth 16384

noncomputable section

namespace Cert.Proof.KernelIdeal

open Cert.KernelIdeal Cert.KernelIdeal.Gen

open Idealize.ShloMosaic
open Idealize.SL Idealize.SL.Sem
open Cert.Proof.Bags

/-- The infinite word is the greatest extended real. -/
theorem inf_word : Ideal.ofBits .f32 0x7F800000#32 = ⊤ := by simp [Ideal.ofBits, Ideal.ieee]

/-- A number whose absolute value is below infinity is real. -/
theorem real_of_abs (x : EReal) (h : Ideal.cmp .olt (max x (-x)) ⊤ = 1#1) : ∃ y : ℝ, x = (y : EReal) := by
  have hlt : max x (-x) < ⊤ := by
    by_contra hn
    rw [show Ideal.cmp .olt (max x (-x)) ⊤ = BitVec.ofBool (decide (max x (-x) < ⊤)) from rfl, decide_eq_false hn] at h
    exact absurd h (by decide)
  induction x using EReal.rec with
  | bot => simp at hlt
  | coe y => exact ⟨y, rfl⟩
  | top => simp at hlt

/-- `drawn`, read: each token names a row of the table, offset `q` is `q`, and each entry of the table is a real number. -/
theorem drawn_read [Cert.Pre_drawn.Facts] (a0 : IVec Cert.Pre_drawn.S204800 32)
    (a1 : IVec Cert.Pre_drawn.S4096 32) (a2 : FVec Ideal Cert.Pre_drawn.S100000x128 .f32)
    (a3 : FVec Ideal Cert.Pre_drawn.S128x1024 .f32) (a4 : FVec Ideal Cert.Pre_drawn.S1024 .f32)
    (a5 : FVec Ideal Cert.Pre_drawn.S1024x128 .f32) (a6 : FVec Ideal Cert.Pre_drawn.S128 .f32)
    (h : Cert.Pre_drawn.fn (F := Ideal) a0 a1 a2 a3 a4 a5 a6 = fun _ => 1#1) :
    (∀ i, (a0 i).toNat < 100000) ∧ (∀ i, a1 i = BitVec.ofNat 32 (i 0).val) ∧ ∀ i, ∃ x : ℝ, a2 i = (x : EReal) := by
  haveI : Subsingleton Cert.Pre_drawn.S_.Idx := ⟨fun a b => funext fun k => k.elim0⟩
  have e := congrFun h (fun k => k.elim0)
  dsimp only [Cert.Pre_drawn.fn] at e
  obtain ⟨e, e3⟩ := (IntOp.andi_eq_one).1 e
  obtain ⟨e, e2⟩ := (IntOp.andi_eq_one).1 e
  obtain ⟨e0, e1⟩ := (IntOp.andi_eq_one).1 e
  refine ⟨fun i => word_range _ (Host.reduce_andi_all _ _ _ _ _ e0 i) (Host.reduce_andi_all _ _ _ _ _ e1 i), fun i => ?_, fun i => ?_⟩
  · exact IntOp.cmpi_eq.1 (Host.reduce_andi_all _ _ _ _ _ e2 i)
  · have ei : Ideal.cmp .olt (max (a2 i) (-(a2 i))) (Ideal.ofBits .f32 0x7F800000#32) = 1#1 := Host.reduce_andi_all _ _ _ _ _ e3 i
    rw [inf_word] at ei
    exact real_of_abs _ ei

/-- A vector laid out as one row, read in that row. -/
theorem row_of_vec {n : ℕ} (z : FVec Ideal ⟨1, ![n]⟩ .f32) (h : (⟨1, ![n]⟩ : Shape).ShapeCasts ⟨2, ![1, n]⟩) (t : Fin n) :
    shapeCast (⟨2, ![1, n]⟩ : Shape) z h (ValueIdx.ix2 (0 : Fin 1) t) = z (ValueIdx.ix1 t) :=
  shapeCast_apply z h _ _ (by
    rw [Shape.rowMajor_val_one, Shape.rowMajor_val_two]
    show t.val = 0 * n + t.val
    omega)

/-- The kernel's result is the reference's. -/
theorem out_eq (m : (ℓ : Loc nD τ sig) → Buf (Elt Ideal) ℓ) (c : Dev nD)
    (h0 : ∀ i, ((m (iLoc c) : IVec S204800 32) i).toNat < 100000)
    (h1 : ∀ i, (m ((c.tc : Thread nD τ).loc main_arg1) : IVec S4096 32) i = BitVec.ofNat 32 (i 0).val)
    (h2 : ∀ i, ∃ x : ℝ, (m (tLoc c) : FVec Ideal S100000x128 .f32) i = (x : EReal)) :
    Cert.ReferenceIdeal.Read.val_main_v31 (F := Ideal) (m (iLoc c)) (m ((c.tc : Thread nD τ).loc main_arg1)) (m (tLoc c))
        (m ((c.tc : Thread nD τ).loc main_arg3)) (m ((c.tc : Thread nD τ).loc main_arg4)) (m ((c.tc : Thread nD τ).loc main_arg5))
        (m ((c.tc : Thread nD τ).loc main_arg6))
      = outOf (F := Ideal) m c := by
  funext i
  rw [ValueIdx.eq_ix2 i]
  generalize i 0 = r
  generalize i 1 = n
  refine (Reference.out_apply _ _ _ _ _ _ _ h0 (fun q => h1 _) (fun t => rowAt (F := Ideal) (m (tLoc c)) (tok (m (iLoc c)) t))
    (fun t k => ?_) r n).trans ?_
  · have et : (⟨t.val % 204800, Nat.mod_lt _ (by decide)⟩ : Fin 204800) = t := Fin.ext (Nat.mod_eq_of_lt t.isLt)
    unfold rowAt tok
    rw [et]
    exact congrArg (fun q : Fin 100000 => (m (tLoc c) : FVec Ideal S100000x128 .f32) (ValueIdx.ix2 q k))
      (Fin.ext (Nat.mod_eq_of_lt (h0 (ValueIdx.ix1 t))).symm)
  · unfold outOf
    refine Eq.trans ?_ ((congrArg _ (ix2_eq_valueIdx r n).symm).trans (mlpOut_apply _ _ _ _ _ _ r n)).symm
    refine (congrArg (fun M => headRow M _ _ _ _ n) (funext fun k => (keptRow_eq c _ _ h2 r k).symm)).trans ?_
    refine (congrArg (fun W => headRow _ W _ _ _ n) (funext fun k => funext fun j => ?_)).trans
      ((congrArg (fun b => headRow _ _ b _ _ n) (funext fun j => ?_)).trans
        ((congrArg (fun W => headRow _ _ _ W _ n) (funext fun j => funext fun q => ?_)).trans
          (congrArg (fun b => headRow _ _ _ _ b n) (funext fun q => ?_))))
    · exact congrArg (m ((c.tc : Thread nD τ).loc main_arg3) : FVec Ideal S128x1024 .f32) (ix2_eq_valueIdx k j).symm
    · exact (row_of_vec _ _ j).symm.trans (congrArg _ (ix2_eq_valueIdx 0 j).symm)
    · exact congrArg (m ((c.tc : Thread nD τ).loc main_arg5) : FVec Ideal S1024x128 .f32) (ix2_eq_valueIdx j q).symm
    · exact (row_of_vec _ _ q).symm.trans (congrArg _ (ix2_eq_valueIdx 0 q).symm)

end Cert.Proof.KernelIdeal

end
-- ==== Proof.lean ====
/-
  The claims about the embedding-bag kernel: the printed kernel and its idealization run and leave their arguments alone
  where the tokens name rows of the table; the reference runs; the idealization rewrites only the named constant; and over
  the extended reals the kernel's result is the reference's, where the offsets are 0, 1, …, 4095 and the table is finite.
-/
module

public import proofs.«01_k».proof.Defs
public import proofs.«01_k».proof.Proof.Gen.Pre_in_range
public import proofs.«01_k».proof.Proof.Gen.Pre_drawn
public import proofs.«01_k».proof.Proof.Gen.ReferenceIdeal.Read
public import proofs.«01_k».proof.Proof.Gen.ReferenceIdeal.Run
public import proofs.«01_k».proof.Proof.RawFrame
public import proofs.«01_k».proof.Proof.IdealFrame
public import proofs.«01_k».proof.Proof.IdealValue
public import Idealize.ShloMosaic.Adequacy
public import Idealize.ShloMosaic.Init

@[expose] public section

noncomputable section

namespace Cert.Proof

open Idealize.ShloMosaic Idealize.SL.Sem

/-- The kernel at machine floats runs and leaves its arguments alone, with every semaphore back at zero. -/
theorem frame_kernel : Cert.quiescent_Kernel := fun m ρ hpre =>
  (θ_run (Cert.Kernel.defs (F := Bits)) _ _).mono (fun _ h => ⟨fun c => (h.1 c).2, h.2⟩)
    (Kernel.run_out (F := Bits) m ρ (fun d i => Kernel.range_of_pre (F := Bits) _ _ _ _ _ _ _ (hpre d) i))

/-- The idealized kernel runs and leaves its arguments alone, with every semaphore back at zero. -/
theorem frame_ideal : Cert.quiescent_KernelIdeal := fun m ρ hpre =>
  (θ_run (Cert.KernelIdeal.defs (F := Ideal)) _ _).mono (fun _ h => ⟨fun c => (h.1 c).2, h.2⟩)
    (KernelIdeal.run_out (F := Ideal) m ρ (fun d i => KernelIdeal.range_of_pre (F := Ideal) _ _ _ _ _ _ _ (hpre d) i))

/-- The same where the inputs are as `drawn` says. -/
theorem frame_ideal_drawn : Cert.quiescent_KernelIdeal_pre_drawn := fun m ρ hpre =>
  (θ_run (Cert.KernelIdeal.defs (F := Ideal)) _ _).mono (fun _ h => ⟨fun c => (h.1 c).2, h.2⟩)
    (KernelIdeal.run_out (F := Ideal) m ρ (fun d => (KernelIdeal.drawn_read _ _ _ _ _ _ _ (hpre d)).1))

/-- The reference runs and leaves its arguments alone; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same where the inputs are as `drawn` says. -/
theorem frame_reference_drawn : Cert.quiescent_ReferenceIdeal_pre_drawn := fun m ρ _ => frame_reference m ρ trivial

/-- Over the extended reals the kernel's result is the reference's. -/
theorem algebraic : Cert.algebraic_KernelIdeal_ReferenceIdeal_pre_drawn := fun m ρ m' ρ' hpre hargs =>
  ⟨fun c => KernelIdeal.outOf (F := Ideal) m c,
    (θ_run (Cert.KernelIdeal.defs (F := Ideal)) _ _).mono (fun _ h c => h.1 c)
      (KernelIdeal.run_out (F := Ideal) m ρ (fun d => (KernelIdeal.drawn_read _ _ _ _ _ _ _ (hpre d)).1)),
    (θ_run Cert.ReferenceIdeal.defs _ _).mono (fun _ h c => by
      obtain ⟨d0, d1, d2⟩ := KernelIdeal.drawn_read _ _ _ _ _ _ _ (hpre c)
      obtain ⟨a0, a1, a2, a3, a4, a5, a6⟩ := hargs c
      refine ⟨((h c).1.trans (Cert.ReferenceIdeal.Read.val_main_v31_eq (F := Ideal) _ _ _ _ _ _ _)).trans ?_, (h c).2⟩
      rw [a0, a1, a2, a3, a4, a5, a6]
      exact KernelIdeal.out_eq m c d0 d1 d2)
      (Cert.ReferenceIdeal.Value.run (F := Ideal) m' ρ')⟩

/-- The idealization reads the printed constant of the last bag's count as the exact fraction 1/200705. -/
theorem preserves : Cert.preserves_Kernel_KernelIdeal :=
  IdealRules.named_const.statement Cert.KernelIdeal.κ "inv_count" .f32 0x36A72ECF#32 ((1 / 200705 : ℝ) : EReal) rfl

/-- All the claims. -/
theorem claim : Cert.Claim :=
  ⟨Cert.Kernel.Gen.facts, Cert.KernelIdeal.Gen.facts, Cert.ReferenceIdeal.Gen.facts, Cert.Pre_in_range.Gen.facts,
    Cert.Pre_drawn.Gen.facts, frame_kernel, frame_ideal, frame_ideal_drawn, frame_reference, frame_reference_drawn, preserves,
    algebraic⟩

end Cert.Proof

end
